-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 4096, 2048]⟩ ⟨5, ![2, 2, 2, 4096, 2048]⟩ (Layout.meshBlock [2, 2, 2] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x4096x2048 : Shape := ⟨5, ![1, 1, 1, 4096, 2048]⟩
abbrev S4096x2048 : Shape := ⟨2, ![4096, 2048]⟩
abbrev S3584x2048 : Shape := ⟨2, ![3584, 2048]⟩
abbrev S18 : Shape := ⟨1, ![18]⟩
abbrev S_ : Shape := ⟨0, ![]⟩
abbrev S1 : Shape := ⟨1, ![1]⟩
abbrev S704x2048 : Shape := ⟨2, ![704, 2048]⟩
abbrev S640x2048 : Shape := ⟨2, ![640, 2048]⟩
abbrev S352x2048 : Shape := ⟨2, ![352, 2048]⟩
abbrev S320x2048 : Shape := ⟨2, ![320, 2048]⟩
abbrev S176x2048 : Shape := ⟨2, ![176, 2048]⟩
abbrev S160x2048 : Shape := ⟨2, ![160, 2048]⟩

abbrev nBuf : Space → Nat
  | .hbm => 2
  | .vmem => 3
  | .smem => 0
  | _ => 0

abbrev bufTy : (tb : Table) → Fin (tcTables nBuf tb) → BufTy
  | .hbm, ⟨0, _⟩ => ⟨S1x1x1x4096x2048, .bf16⟩
  | .hbm, ⟨1, _⟩ => ⟨S4096x2048, .bf16⟩
  | .local _ .vmem, ⟨0, _⟩ => ⟨S1x1x1x4096x2048, .bf16⟩
  | .local _ .vmem, ⟨1, _⟩ => ⟨S4096x2048, .bf16⟩
  | .local _ .vmem, ⟨2, _⟩ => ⟨S3584x2048, .bf16⟩
  | _, _ => ⟨S1x1x1x4096x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_27 : BitVec 32) (c4_i32 : BitVec 32) : Fin 2 → Nat :=
  let c1_i32_26 : BitVec 32 := 1#32
  let v0 : BitVec 32 := Dev.word d0
  let v1 : BitVec 32 := Scalar.divsi v0 c4_i32
  let c2_i32 : BitVec 32 := 2#32
  let v2 : BitVec 32 := Scalar.remsi v1 c2_i32
  let v35 : BitVec 32 := Scalar.subi c1_i32_26 v2
  let c704_i32 : BitVec 32 := 704#32
  let v36 : BitVec 32 := Scalar.muli v35 c704_i32
  let v37 : BitVec 32 := Scalar.addi c0_i32_27 v36
  let c0_i32_36 : BitVec 32 := 0#32
  ![v37.toNat, 0]
def k0_off1_at (r : Fin 2) : BitVec 32 × BitVec 32 :=
  if r.val < 1 then
    (0#32, 4#32)
  else
    (1408#32, 2#32)
def k0_dev4 (d0 : Dev nD) : Nat :=
  let c0_i32_31 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_30 : BitVec 32 := 4#32
  let v38 : BitVec 32 := Scalar.muli v9 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v40 : BitVec 32 := Scalar.muli v5 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v42 : BitVec 32 := Scalar.muli v8 c1_i32_33
  let v43 : BitVec 32 := Scalar.addi v41 v42
  v43.toNat
def k0_dev5 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v53 : BitVec 32 := Scalar.muli v2 c4_i32_41
  let v54 : BitVec 32 := Scalar.addi c0_i32_42 v53
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_43 : BitVec 32 := 2#32
  let v55 : BitVec 32 := Scalar.muli v10 c2_i32_43
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v57 : BitVec 32 := Scalar.muli v8 c1_i32_44
  let v58 : BitVec 32 := Scalar.addi v56 v57
  v58.toNat
def k0_off2 (d0 : Dev nD) : Fin 2 → Nat :=
  let c2816_i32 : BitVec 32 := 2816#32
  let c1_i32_48 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_48 v8
  let c640_i32 : BitVec 32 := 640#32
  let v66 : BitVec 32 := Scalar.muli v65 c640_i32
  let v67 : BitVec 32 := Scalar.addi c2816_i32 v66
  let c0_i32_57 : BitVec 32 := 0#32
  ![v67.toNat, 0]
def k0_dev6 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v68 : BitVec 32 := Scalar.muli v2 c4_i32_51
  let v69 : BitVec 32 := Scalar.addi c0_i32_52 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v70 : BitVec 32 := Scalar.muli v5 c2_i32_53
  let v71 : BitVec 32 := Scalar.addi v69 v70
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_54 : BitVec 32 := 1#32
  let v72 : BitVec 32 := Scalar.muli v11 c1_i32_54
  let v73 : BitVec 32 := Scalar.addi v71 v72
  v73.toNat
def k0_off3 (d0 : Dev nD) (c0_i32_59 : BitVec 32) (c4_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let v96 : Index := Scalar.indexCast v81
  let c0_75 : Index := 0#32
  ![v96.toNat, 0]
def k0_off3_at (r : Fin 2) : BitVec 32 × BitVec 32 :=
  if r.val < 1 then
    (0#32, 4#32)
  else
    (1408#32, 2#32)
def k0_off4 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let v142 : Index := Scalar.indexCast v127
  let c0_116 : Index := 0#32
  ![v142.toNat, 0]
def k0_off5 (d0 : Dev nD) (c0_i32_59 : BitVec 32) (c4_i32 : BitVec 32) (c2_i32_1 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let c1_i32_119 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v149 : BitVec 32 := Scalar.subi c1_i32_119 v5
  let c352_i32 : BitVec 32 := 352#32
  let v150 : BitVec 32 := Scalar.muli v149 c352_i32
  let v151 : BitVec 32 := Scalar.addi v81 v150
  let c0_i32_127 : BitVec 32 := 0#32
  ![v151.toNat, 0]
def k0_off5_at (r : Fin 2) : BitVec 32 × BitVec 32 × BitVec 32 :=
  if r.val < 1 then
    (0#32, 4#32, 2#32)
  else
    (1408#32, 2#32, 1#32)
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v152 : BitVec 32 := Scalar.muli v2 c4_i32_122
  let v153 : BitVec 32 := Scalar.addi c0_i32_123 v152
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_124 : BitVec 32 := 2#32
  let v154 : BitVec 32 := Scalar.muli v10 c2_i32_124
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v156 : BitVec 32 := Scalar.muli v8 c1_i32_125
  let v157 : BitVec 32 := Scalar.addi v155 v156
  v157.toNat
def k0_dev8 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v167 : BitVec 32 := Scalar.muli v2 c4_i32_132
  let v168 : BitVec 32 := Scalar.addi c0_i32_133 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_134 : BitVec 32 := 2#32
  let v169 : BitVec 32 := Scalar.muli v5 c2_i32_134
  let v170 : BitVec 32 := Scalar.addi v168 v169
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_135 : BitVec 32 := 1#32
  let v171 : BitVec 32 := Scalar.muli v11 c1_i32_135
  let v172 : BitVec 32 := Scalar.addi v170 v171
  v172.toNat
def k0_off6 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let c1_i32_138 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v179 : BitVec 32 := Scalar.subi c1_i32_138 v2
  let c320_i32 : BitVec 32 := 320#32
  let v180 : BitVec 32 := Scalar.muli v179 c320_i32
  let v181 : BitVec 32 := Scalar.addi v127 v180
  let c0_i32_145 : BitVec 32 := 0#32
  ![v181.toNat, 0]
def k0_dev9 (d0 : Dev nD) : Nat :=
  let c0_i32_141 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_140 : BitVec 32 := 4#32
  let v182 : BitVec 32 := Scalar.muli v9 c4_i32_140
  let v183 : BitVec 32 := Scalar.addi c0_i32_141 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v184 : BitVec 32 := Scalar.muli v5 c2_i32_142
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v186 : BitVec 32 := Scalar.muli v8 c1_i32_143
  let v187 : BitVec 32 := Scalar.addi v185 v186
  v187.toNat
def k0_off7 (d0 : Dev nD) (c0_i32_59 : BitVec 32) (c4_i32 : BitVec 32) (c2_i32_1 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let v3 : BitVec 32 := Dev.word d0
  let v4 : BitVec 32 := Scalar.divsi v3 c2_i32_1
  let c2_i32_0 : BitVec 32 := 2#32
  let v5 : BitVec 32 := Scalar.remsi v4 c2_i32_0
  let c352_i32_146 : BitVec 32 := 352#32
  let v194 : BitVec 32 := Scalar.muli v5 c352_i32_146
  let v195 : BitVec 32 := Scalar.addi v81 v194
  let v210 : Index := Scalar.indexCast v195
  let c0_162 : Index := 0#32
  ![v210.toNat, 0]
def k0_off7_at (r : Fin 2) : BitVec 32 × BitVec 32 × BitVec 32 :=
  if r.val < 1 then
    (0#32, 4#32, 2#32)
  else
    (1408#32, 2#32, 1#32)
def k0_off8 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c320_i32_184 : BitVec 32 := 320#32
  let v240 : BitVec 32 := Scalar.muli v2 c320_i32_184
  let v241 : BitVec 32 := Scalar.addi v127 v240
  let v256 : Index := Scalar.indexCast v241
  let c0_200 : Index := 0#32
  ![v256.toNat, 0]
def k0_off9 (d0 : Dev nD) (c0_i32_59 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let v3 : BitVec 32 := Dev.word d0
  let v4 : BitVec 32 := Scalar.divsi v3 c2_i32_1
  let c2_i32_0 : BitVec 32 := 2#32
  let v5 : BitVec 32 := Scalar.remsi v4 c2_i32_0
  let c352_i32_146 : BitVec 32 := 352#32
  let v194 : BitVec 32 := Scalar.muli v5 c352_i32_146
  let v195 : BitVec 32 := Scalar.addi v81 v194
  let c1_i32_203 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v263 : BitVec 32 := Scalar.subi c1_i32_203 v8
  let c176_i32 : BitVec 32 := 176#32
  let v264 : BitVec 32 := Scalar.muli v263 c176_i32
  let v265 : BitVec 32 := Scalar.addi v195 v264
  let c0_i32_210 : BitVec 32 := 0#32
  ![v265.toNat, 0]
def k0_off9_at (r : Fin 2) : BitVec 32 × BitVec 32 × BitVec 32 × BitVec 32 :=
  if r.val < 1 then
    (0#32, 4#32, 2#32, 1#32)
  else
    (1408#32, 2#32, 1#32, 4#32)
def k0_dev10 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v266 : BitVec 32 := Scalar.muli v2 c4_i32_205
  let v267 : BitVec 32 := Scalar.addi c0_i32_206 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v268 : BitVec 32 := Scalar.muli v5 c2_i32_207
  let v269 : BitVec 32 := Scalar.addi v267 v268
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_208 : BitVec 32 := 1#32
  let v270 : BitVec 32 := Scalar.muli v11 c1_i32_208
  let v271 : BitVec 32 := Scalar.addi v269 v270
  v271.toNat
def k0_dev11 (d0 : Dev nD) : Nat :=
  let c0_i32_215 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_214 : BitVec 32 := 4#32
  let v281 : BitVec 32 := Scalar.muli v9 c4_i32_214
  let v282 : BitVec 32 := Scalar.addi c0_i32_215 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v283 : BitVec 32 := Scalar.muli v5 c2_i32_216
  let v284 : BitVec 32 := Scalar.addi v282 v283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v285 : BitVec 32 := Scalar.muli v8 c1_i32_217
  let v286 : BitVec 32 := Scalar.addi v284 v285
  v286.toNat
def k0_off10 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c320_i32_184 : BitVec 32 := 320#32
  let v240 : BitVec 32 := Scalar.muli v2 c320_i32_184
  let v241 : BitVec 32 := Scalar.addi v127 v240
  let c1_i32_220 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v293 : BitVec 32 := Scalar.subi c1_i32_220 v5
  let c160_i32 : BitVec 32 := 160#32
  let v294 : BitVec 32 := Scalar.muli v293 c160_i32
  let v295 : BitVec 32 := Scalar.addi v241 v294
  let c0_i32_227 : BitVec 32 := 0#32
  ![v295.toNat, 0]
def k0_dev12 (d0 : Dev nD) : Nat :=
  let c0_i32_223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_222 : BitVec 32 := 4#32
  let v296 : BitVec 32 := Scalar.muli v2 c4_i32_222
  let v297 : BitVec 32 := Scalar.addi c0_i32_223 v296
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_224 : BitVec 32 := 2#32
  let v298 : BitVec 32 := Scalar.muli v10 c2_i32_224
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v300 : BitVec 32 := Scalar.muli v8 c1_i32_225
  let v301 : BitVec 32 := Scalar.addi v299 v300
  v301.toNat
def k0_off11 (d0 : Dev nD) (c0_i32_59 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let v3 : BitVec 32 := Dev.word d0
  let v4 : BitVec 32 := Scalar.divsi v3 c2_i32_1
  let c2_i32_0 : BitVec 32 := 2#32
  let v5 : BitVec 32 := Scalar.remsi v4 c2_i32_0
  let c352_i32_146 : BitVec 32 := 352#32
  let v194 : BitVec 32 := Scalar.muli v5 c352_i32_146
  let v195 : BitVec 32 := Scalar.addi v81 v194
  let v6 : BitVec 32 := Dev.word d0
  let v7 : BitVec 32 := Scalar.divsi v6 c1_i32
  let c2_i32_2 : BitVec 32 := 2#32
  let v8 : BitVec 32 := Scalar.remsi v7 c2_i32_2
  let c176_i32_228 : BitVec 32 := 176#32
  let v308 : BitVec 32 := Scalar.muli v8 c176_i32_228
  let v309 : BitVec 32 := Scalar.addi v195 v308
  let v324 : Index := Scalar.indexCast v309
  let c0_244 : Index := 0#32
  ![v324.toNat, 0]
def k0_off11_at (r : Fin 2) : BitVec 32 × BitVec 32 × BitVec 32 × BitVec 32 :=
  if r.val < 1 then
    (0#32, 4#32, 2#32, 1#32)
  else
    (1408#32, 2#32, 1#32, 4#32)
def k0_off12 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c320_i32_184 : BitVec 32 := 320#32
  let v240 : BitVec 32 := Scalar.muli v2 c320_i32_184
  let v241 : BitVec 32 := Scalar.addi v127 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c160_i32_266 : BitVec 32 := 160#32
  let v354 : BitVec 32 := Scalar.muli v5 c160_i32_266
  let v355 : BitVec 32 := Scalar.addi v241 v354
  let v370 : Index := Scalar.indexCast v355
  let c0_282 : Index := 0#32
  ![v370.toNat, 0]
def k0_off13 (d0 : Dev nD) (c0_i32_59 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let v3 : BitVec 32 := Dev.word d0
  let v4 : BitVec 32 := Scalar.divsi v3 c2_i32_1
  let c2_i32_0 : BitVec 32 := 2#32
  let v5 : BitVec 32 := Scalar.remsi v4 c2_i32_0
  let c352_i32_146 : BitVec 32 := 352#32
  let v194 : BitVec 32 := Scalar.muli v5 c352_i32_146
  let v195 : BitVec 32 := Scalar.addi v81 v194
  let v6 : BitVec 32 := Dev.word d0
  let v7 : BitVec 32 := Scalar.divsi v6 c1_i32
  let c2_i32_2 : BitVec 32 := 2#32
  let v8 : BitVec 32 := Scalar.remsi v7 c2_i32_2
  let c176_i32_228 : BitVec 32 := 176#32
  let v308 : BitVec 32 := Scalar.muli v8 c176_i32_228
  let v309 : BitVec 32 := Scalar.addi v195 v308
  let c0_i32_290 : BitVec 32 := 0#32
  ![v309.toNat, 0]
def k0_off13_at (r : Fin 2) : BitVec 32 × BitVec 32 × BitVec 32 × BitVec 32 :=
  if r.val < 1 then
    (0#32, 4#32, 2#32, 1#32)
  else
    (1408#32, 2#32, 1#32, 4#32)
def k0_dev13 (d0 : Dev nD) : Nat :=
  let c0_i32_287 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_286 : BitVec 32 := 4#32
  let v377 : BitVec 32 := Scalar.muli v2 c4_i32_286
  let v378 : BitVec 32 := Scalar.addi c0_i32_287 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_288 : BitVec 32 := 2#32
  let v379 : BitVec 32 := Scalar.muli v5 c2_i32_288
  let v380 : BitVec 32 := Scalar.addi v378 v379
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_289 : BitVec 32 := 1#32
  let v381 : BitVec 32 := Scalar.muli v11 c1_i32_289
  let v382 : BitVec 32 := Scalar.addi v380 v381
  v382.toNat
def k0_dev14 (d0 : Dev nD) : Nat :=
  let c0_i32_294 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_293 : BitVec 32 := 4#32
  let v389 : BitVec 32 := Scalar.muli v9 c4_i32_293
  let v390 : BitVec 32 := Scalar.addi c0_i32_294 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v391 : BitVec 32 := Scalar.muli v5 c2_i32_295
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_296 : BitVec 32 := 1#32
  let v393 : BitVec 32 := Scalar.muli v8 c1_i32_296
  let v394 : BitVec 32 := Scalar.addi v392 v393
  v394.toNat
def k0_off14 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c320_i32_184 : BitVec 32 := 320#32
  let v240 : BitVec 32 := Scalar.muli v2 c320_i32_184
  let v241 : BitVec 32 := Scalar.addi v127 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c160_i32_266 : BitVec 32 := 160#32
  let v354 : BitVec 32 := Scalar.muli v5 c160_i32_266
  let v355 : BitVec 32 := Scalar.addi v241 v354
  let c0_i32_304 : BitVec 32 := 0#32
  ![v355.toNat, 0]
def k0_dev15 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v401 : BitVec 32 := Scalar.muli v2 c4_i32_300
  let v402 : BitVec 32 := Scalar.addi c0_i32_301 v401
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_302 : BitVec 32 := 2#32
  let v403 : BitVec 32 := Scalar.muli v10 c2_i32_302
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v405 : BitVec 32 := Scalar.muli v8 c1_i32_303
  let v406 : BitVec 32 := Scalar.addi v404 v405
  v406.toNat
def k0_off15 (d0 : Dev nD) (c0_i32_59 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let v3 : BitVec 32 := Dev.word d0
  let v4 : BitVec 32 := Scalar.divsi v3 c2_i32_1
  let c2_i32_0 : BitVec 32 := 2#32
  let v5 : BitVec 32 := Scalar.remsi v4 c2_i32_0
  let c352_i32_146 : BitVec 32 := 352#32
  let v194 : BitVec 32 := Scalar.muli v5 c352_i32_146
  let v195 : BitVec 32 := Scalar.addi v81 v194
  let v6 : BitVec 32 := Dev.word d0
  let v7 : BitVec 32 := Scalar.divsi v6 c1_i32
  let c2_i32_2 : BitVec 32 := 2#32
  let v8 : BitVec 32 := Scalar.remsi v7 c2_i32_2
  let c176_i32_228 : BitVec 32 := 176#32
  let v308 : BitVec 32 := Scalar.muli v8 c176_i32_228
  let v309 : BitVec 32 := Scalar.addi v195 v308
  let c176_i32_319 : BitVec 32 := 176#32
  let v427 : BitVec 32 := Scalar.muli v8 c176_i32_319
  let v428 : BitVec 32 := Scalar.subi v309 v427
  let c0_i32_353 : BitVec 32 := 0#32
  ![v428.toNat, 0]
def k0_off15_at (r : Fin 2) : BitVec 32 × BitVec 32 × BitVec 32 × BitVec 32 :=
  if r.val < 1 then
    (0#32, 4#32, 2#32, 1#32)
  else
    (1408#32, 2#32, 1#32, 4#32)
def k0_dev16 (d0 : Dev nD) : Nat :=
  let c0_i32_350 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_349 : BitVec 32 := 4#32
  let v461 : BitVec 32 := Scalar.muli v2 c4_i32_349
  let v462 : BitVec 32 := Scalar.addi c0_i32_350 v461
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_351 : BitVec 32 := 2#32
  let v463 : BitVec 32 := Scalar.muli v10 c2_i32_351
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_352 : BitVec 32 := 1#32
  let v465 : BitVec 32 := Scalar.muli v8 c1_i32_352
  let v466 : BitVec 32 := Scalar.addi v464 v465
  v466.toNat
def k0_dev17 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v473 : BitVec 32 := Scalar.muli v2 c4_i32_356
  let v474 : BitVec 32 := Scalar.addi c0_i32_357 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v475 : BitVec 32 := Scalar.muli v5 c2_i32_358
  let v476 : BitVec 32 := Scalar.addi v474 v475
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_359 : BitVec 32 := 1#32
  let v477 : BitVec 32 := Scalar.muli v11 c1_i32_359
  let v478 : BitVec 32 := Scalar.addi v476 v477
  v478.toNat
def k0_off16 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c320_i32_184 : BitVec 32 := 320#32
  let v240 : BitVec 32 := Scalar.muli v2 c320_i32_184
  let v241 : BitVec 32 := Scalar.addi v127 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c160_i32_266 : BitVec 32 := 160#32
  let v354 : BitVec 32 := Scalar.muli v5 c160_i32_266
  let v355 : BitVec 32 := Scalar.addi v241 v354
  let c160_i32_347 : BitVec 32 := 160#32
  let v459 : BitVec 32 := Scalar.muli v5 c160_i32_347
  let v460 : BitVec 32 := Scalar.subi v355 v459
  let c0_i32_367 : BitVec 32 := 0#32
  ![v460.toNat, 0]
def k0_dev18 (d0 : Dev nD) : Nat :=
  let c0_i32_364 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_363 : BitVec 32 := 4#32
  let v485 : BitVec 32 := Scalar.muli v9 c4_i32_363
  let v486 : BitVec 32 := Scalar.addi c0_i32_364 v485
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_365 : BitVec 32 := 2#32
  let v487 : BitVec 32 := Scalar.muli v5 c2_i32_365
  let v488 : BitVec 32 := Scalar.addi v486 v487
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_366 : BitVec 32 := 1#32
  let v489 : BitVec 32 := Scalar.muli v8 c1_i32_366
  let v490 : BitVec 32 := Scalar.addi v488 v489
  v490.toNat
def k0_off17 (d0 : Dev nD) (c0_i32_59 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c704_i32_58 : BitVec 32 := 704#32
  let v80 : BitVec 32 := Scalar.muli v2 c704_i32_58
  let v81 : BitVec 32 := Scalar.addi c0_i32_59 v80
  let v3 : BitVec 32 := Dev.word d0
  let v4 : BitVec 32 := Scalar.divsi v3 c2_i32_1
  let c2_i32_0 : BitVec 32 := 2#32
  let v5 : BitVec 32 := Scalar.remsi v4 c2_i32_0
  let c352_i32_146 : BitVec 32 := 352#32
  let v194 : BitVec 32 := Scalar.muli v5 c352_i32_146
  let v195 : BitVec 32 := Scalar.addi v81 v194
  let v6 : BitVec 32 := Dev.word d0
  let v7 : BitVec 32 := Scalar.divsi v6 c1_i32
  let c2_i32_2 : BitVec 32 := 2#32
  let v8 : BitVec 32 := Scalar.remsi v7 c2_i32_2
  let c176_i32_228 : BitVec 32 := 176#32
  let v308 : BitVec 32 := Scalar.muli v8 c176_i32_228
  let v309 : BitVec 32 := Scalar.addi v195 v308
  let c176_i32_319 : BitVec 32 := 176#32
  let v427 : BitVec 32 := Scalar.muli v8 c176_i32_319
  let v428 : BitVec 32 := Scalar.subi v309 v427
  let c352_i32_382 : BitVec 32 := 352#32
  let v511 : BitVec 32 := Scalar.muli v5 c352_i32_382
  let v512 : BitVec 32 := Scalar.subi v428 v511
  let c0_i32_416 : BitVec 32 := 0#32
  ![v512.toNat, 0]
def k0_off17_at (r : Fin 2) : BitVec 32 × BitVec 32 × BitVec 32 × BitVec 32 :=
  if r.val < 1 then
    (0#32, 4#32, 2#32, 1#32)
  else
    (1408#32, 2#32, 1#32, 4#32)
def k0_dev19 (d0 : Dev nD) : Nat :=
  let c0_i32_413 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_412 : BitVec 32 := 4#32
  let v545 : BitVec 32 := Scalar.muli v9 c4_i32_412
  let v546 : BitVec 32 := Scalar.addi c0_i32_413 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v547 : BitVec 32 := Scalar.muli v5 c2_i32_414
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_415 : BitVec 32 := 1#32
  let v549 : BitVec 32 := Scalar.muli v8 c1_i32_415
  let v550 : BitVec 32 := Scalar.addi v548 v549
  v550.toNat
def k0_dev20 (d0 : Dev nD) : Nat :=
  let c0_i32_420 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_419 : BitVec 32 := 4#32
  let v557 : BitVec 32 := Scalar.muli v2 c4_i32_419
  let v558 : BitVec 32 := Scalar.addi c0_i32_420 v557
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_421 : BitVec 32 := 2#32
  let v559 : BitVec 32 := Scalar.muli v10 c2_i32_421
  let v560 : BitVec 32 := Scalar.addi v558 v559
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_422 : BitVec 32 := 1#32
  let v561 : BitVec 32 := Scalar.muli v8 c1_i32_422
  let v562 : BitVec 32 := Scalar.addi v560 v561
  v562.toNat
def k0_off18 (d0 : Dev nD) : Fin 2 → Nat :=
  let c2816_i32_100 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c640_i32_99 : BitVec 32 := 640#32
  let v126 : BitVec 32 := Scalar.muli v8 c640_i32_99
  let v127 : BitVec 32 := Scalar.addi c2816_i32_100 v126
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c320_i32_184 : BitVec 32 := 320#32
  let v240 : BitVec 32 := Scalar.muli v2 c320_i32_184
  let v241 : BitVec 32 := Scalar.addi v127 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c160_i32_266 : BitVec 32 := 160#32
  let v354 : BitVec 32 := Scalar.muli v5 c160_i32_266
  let v355 : BitVec 32 := Scalar.addi v241 v354
  let c160_i32_347 : BitVec 32 := 160#32
  let v459 : BitVec 32 := Scalar.muli v5 c160_i32_347
  let v460 : BitVec 32 := Scalar.subi v355 v459
  let c320_i32_410 : BitVec 32 := 320#32
  let v543 : BitVec 32 := Scalar.muli v2 c320_i32_410
  let v544 : BitVec 32 := Scalar.subi v460 v543
  let c0_i32_430 : BitVec 32 := 0#32
  ![v544.toNat, 0]
def k0_dev21 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v569 : BitVec 32 := Scalar.muli v2 c4_i32_426
  let v570 : BitVec 32 := Scalar.addi c0_i32_427 v569
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v571 : BitVec 32 := Scalar.muli v5 c2_i32_428
  let v572 : BitVec 32 := Scalar.addi v570 v571
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_429 : BitVec 32 := 1#32
  let v573 : BitVec 32 := Scalar.muli v11 c1_i32_429
  let v574 : BitVec 32 := Scalar.addi v572 v573
  v574.toNat
abbrev stage0_0 : Fin 1 → Memref sig .tc .vmem S1x1x1x4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x2x4096x2048 : Shape := ⟨5, ![2, 2, 2, 4096, 2048]⟩
abbrev S_ : Shape := ⟨0, ![]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x2x2x4096x2048, .bf16⟩
  | .hbm, ⟨1, _⟩ => ⟨S2x2x2x4096x2048, .f32⟩
  | .hbm, ⟨2, _⟩ => ⟨S_, .f32⟩
  | .hbm, ⟨3, _⟩ => ⟨S4096x2048, .f32⟩
  | .hbm, ⟨4, _⟩ => ⟨S4096x2048, .bf16⟩
  | _, _ => ⟨S2x2x2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Proto.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

/-!
# The all-reduce's protocol: rows, contents, the schedule of its cells, what a device owes

The kernel of eight devices, logical number `4x + 2y + z`. A transfer is numbered `k : Fin 18`, by phase `k / 3`
(three of the reduction, three of the gathering) and chunk `k % 3`; it uses the `k`-th send and the `k`-th receive
semaphore. Everything is written at any float values.
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh and the rows -/

/-- A device's place along an axis. -/
def bit (ax : Fin 3) (c : Dev nD) : ℕ := (![c.val / 4, c.val / 2 % 2, c.val % 2] : Fin 3 → ℕ) ax
/-- The device across an axis. -/
def pt (ax : Fin 3) (c : Dev nD) : Dev nD :=
  (![![4, 5, 6, 7, 0, 1, 2, 3], ![2, 3, 0, 1, 6, 7, 4, 5], ![1, 0, 3, 2, 5, 4, 7, 6]] : Fin 3 → Fin 8 → Fin 8) ax c
/-- The axis chunk `ci` crosses at its step `s`. -/
def ord (ci : Fin 3) (s : ℕ) : Fin 3 := ⟨(ci.val + s) % 3, Nat.mod_lt _ (by decide)⟩
def base (ci : Fin 3) : ℕ := (![0, 1408, 2816] : Fin 3 → ℕ) ci
def total (ci : Fin 3) : ℕ := (![1408, 1408, 1280] : Fin 3 → ℕ) ci
/-- The rows a chunk's region has at step `s`, and half of them. -/
def cur (ci : Fin 3) (s : ℕ) : ℕ := total ci / 2 ^ s
def hh (ci : Fin 3) (s : ℕ) : ℕ := total ci / 2 ^ (s + 1)
/-- Where device `c`'s region of chunk `ci` begins at step `s`; -/
def off (ci : Fin 3) : ℕ → Dev nD → ℕ
  | 0, _ => base ci
  | s + 1, c => off ci s c + bit (ord ci s) c * hh ci s
/-- where the half it sends away begins. -/
def soff (ci : Fin 3) (s : ℕ) (c : Dev nD) : ℕ := off ci s c + (1 - bit (ord ci s) c) * hh ci s

/-- The reduction step transfer `k` belongs to (a gathering one: whose halves it brings together), its chunk, its axis. -/
def st (k : Fin 18) : Fin 3 := if h : k.val < 9 then ⟨k.val / 3, by omega⟩ else ⟨5 - k.val / 3, by omega⟩
def ch (k : Fin 18) : Fin 3 := ⟨k.val % 3, Nat.mod_lt _ (by decide)⟩
def ax (k : Fin 18) : Fin 3 := ord (ch k) (st k).val
def peer (k : Fin 18) (c : Dev nD) : Dev nD := pt (ax k) c
def hk (k : Fin 18) : ℕ := hh (ch k) (st k).val
/-- Where a reduction transfer lands in the receive buffer. -/
def rb (k : Fin 18) : ℕ := (![0, 704, 1408, 2048, 2400, 2752, 3072, 3248, 3424, 0, 0, 0, 0, 0, 0, 0, 0, 0] : Fin 18 → ℕ) k

/-- Reduction transfer of step `s`, chunk `ci`; gathering transfer bringing step `s`'s halves together. -/
def kR (s ci : Fin 3) : Fin 18 := ⟨3 * s.val + ci.val, by omega⟩
def kG (s ci : Fin 3) : Fin 18 := ⟨15 - 3 * s.val + ci.val, by omega⟩

theorem pt_pt : ∀ (a : Fin 3) (c : Dev nD), pt a (pt a c) = c := by decide +kernel
theorem peer_peer (k : Fin 18) (c : Dev nD) : peer k (peer k c) = c := pt_pt _ _
def ptE (a : Fin 3) : Dev nD ≃ Dev nD := ⟨pt a, pt a, pt_pt a, pt_pt a⟩

theorem soff_peer : ∀ (ci s : Fin 3) (c : Dev nD), soff ci s.val (pt (ord ci s.val) c) = off ci (s.val + 1) c := by decide +kernel
theorem off_peer : ∀ (ci s : Fin 3) (c : Dev nD), off ci s.val (pt (ord ci s.val) c) = off ci s.val c := by decide +kernel
theorem off_le : ∀ (ci s : Fin 3) (c : Dev nD), off ci s.val c + cur ci s.val ≤ 4096 := by decide +kernel
/-- A region is its kept half and its sent half, in one order or the other. -/
theorem halves : ∀ (ci s : Fin 3) (c : Dev nD), cur ci s.val = 2 * hh ci s.val ∧
    ((off ci (s.val + 1) c = off ci s.val c ∧ soff ci s.val c = off ci s.val c + hh ci s.val)
      ∨ (soff ci s.val c = off ci s.val c ∧ off ci (s.val + 1) c = off ci s.val c + hh ci s.val)) := by decide +kernel
theorem cur_succ : ∀ (ci s : Fin 3), cur ci (s.val + 1) = hh ci s.val := by decide +kernel

/-! ## The memrefs and cells -/

abbrev xM : Memref sig .tc .vmem S1x1x1x4096x2048 .bf16 := Memref.whole cc0_stg0_0
abbrev oM : Memref sig .tc .vmem S4096x2048 .bf16 := Memref.whole cc0_stg1_0
abbrev rM : Memref sig .tc .vmem S3584x2048 .bf16 := Memref.whole cc0_scratch0

abbrev barS : Sem sig := (SemArray.scalar (sig.barrier 0 rfl) : Sems sig S_).sem
abbrev sS (k : Fin 18) : DmaSem sig := (⟨2 + k.val, by omega⟩ : Fin 38)
abbrev sR (k : Fin 18) : DmaSem sig := (⟨20 + k.val, by omega⟩ : Fin 38)

abbrev barCell (c : Dev nD) : GSem nD τ sig := ((c : Thread nD τ), .reg barS)
abbrev sendCell (k : Fin 18) (c : Dev nD) : GSem nD τ sig := ((c : Thread nD τ), .dma (sS k))
abbrev recvCell (k : Fin 18) (c : Dev nD) : GSem nD τ sig := ((c : Thread nD τ), .dma (sR k))

/-- The kernel's own thirty-six semaphores in order, and each device's thirty-seven cells: the barrier, then those. -/
abbrev osem (j : Fin 36) : SemLoc sig := .dma (⟨2 + j.val, by omega⟩ : Fin 38)
abbrev csem (j : Option (Fin 36)) : SemLoc sig := match j with | none => .reg barS | some j => osem j
abbrev kcell (cj : Dev nD × Option (Fin 36)) : GSem nD τ sig := ((cj.1 : Thread nD τ), csem cj.2)

abbrev jS (k : Fin 18) : Fin 36 := ⟨k.val, by omega⟩
abbrev jR (k : Fin 18) : Fin 36 := ⟨18 + k.val, by omega⟩
theorem osem_S (k : Fin 18) : osem (jS k) = .dma (sS k) := rfl
theorem osem_R (k : Fin 18) : osem (jR k) = .dma (sR k) := by
  show SemLoc.dma _ = SemLoc.dma _; congr 1; exact Fin.ext (by simp only [jR]; omega)

/-- What transfer `k` credits either of its cells. -/
def N (k : Fin 18) : ℕ := (cc0_stg1_0 : Ref sig .tc).dmaCredit (⟨2, ![hk k, 2048]⟩ : Shape) .bf16
theorem hk_pos : ∀ k : Fin 18, 0 < hk k := by decide +kernel
theorem N_pos (k : Fin 18) : 0 < N k :=
  sig.dmaCredit_pos _ _ _ _ _ (Shape.numel_pos fun a => by
    fin_cases a
    · exact hk_pos k
    · exact Nat.succ_pos 2047)

/-! ## The printed offsets and devices -/

theorem e_dev1 : ∀ c : Dev nD, (⟨k0_dev1 c, k0_dev1_lt c⟩ : Dev nD) = pt 0 c := by decide +kernel
theorem e_dev2 : ∀ c : Dev nD, (⟨k0_dev2 c, k0_dev2_lt c⟩ : Dev nD) = pt 1 c := by decide +kernel
theorem e_dev3 : ∀ c : Dev nD, (⟨k0_dev3 c, k0_dev3_lt c⟩ : Dev nD) = pt 2 c := by decide +kernel
theorem e_dev4 : ∀ c : Dev nD, (⟨k0_dev4 c, k0_dev4_lt c⟩ : Dev nD) = peer 0 c := by decide +kernel
theorem e_dev5 : ∀ c : Dev nD, (⟨k0_dev5 c, k0_dev5_lt c⟩ : Dev nD) = peer 1 c := by decide +kernel
theorem e_dev6 : ∀ c : Dev nD, (⟨k0_dev6 c, k0_dev6_lt c⟩ : Dev nD) = peer 2 c := by decide +kernel
theorem e_dev7 : ∀ c : Dev nD, (⟨k0_dev7 c, k0_dev7_lt c⟩ : Dev nD) = peer 3 c := by decide +kernel
theorem e_dev8 : ∀ c : Dev nD, (⟨k0_dev8 c, k0_dev8_lt c⟩ : Dev nD) = peer 4 c := by decide +kernel
theorem e_dev9 : ∀ c : Dev nD, (⟨k0_dev9 c, k0_dev9_lt c⟩ : Dev nD) = peer 5 c := by decide +kernel
theorem e_dev10 : ∀ c : Dev nD, (⟨k0_dev10 c, k0_dev10_lt c⟩ : Dev nD) = peer 6 c := by decide +kernel
theorem e_dev11 : ∀ c : Dev nD, (⟨k0_dev11 c, k0_dev11_lt c⟩ : Dev nD) = peer 7 c := by decide +kernel
theorem e_dev12 : ∀ c : Dev nD, (⟨k0_dev12 c, k0_dev12_lt c⟩ : Dev nD) = peer 8 c := by decide +kernel
theorem e_dev13 : ∀ c : Dev nD, (⟨k0_dev13 c, k0_dev13_lt c⟩ : Dev nD) = peer 9 c := by decide +kernel
theorem e_dev14 : ∀ c : Dev nD, (⟨k0_dev14 c, k0_dev14_lt c⟩ : Dev nD) = peer 10 c := by decide +kernel
theorem e_dev15 : ∀ c : Dev nD, (⟨k0_dev15 c, k0_dev15_lt c⟩ : Dev nD) = peer 11 c := by decide +kernel
theorem e_dev16 : ∀ c : Dev nD, (⟨k0_dev16 c, k0_dev16_lt c⟩ : Dev nD) = peer 12 c := by decide +kernel
theorem e_dev17 : ∀ c : Dev nD, (⟨k0_dev17 c, k0_dev17_lt c⟩ : Dev nD) = peer 13 c := by decide +kernel
theorem e_dev18 : ∀ c : Dev nD, (⟨k0_dev18 c, k0_dev18_lt c⟩ : Dev nD) = peer 14 c := by decide +kernel
theorem e_dev19 : ∀ c : Dev nD, (⟨k0_dev19 c, k0_dev19_lt c⟩ : Dev nD) = peer 15 c := by decide +kernel
theorem e_dev20 : ∀ c : Dev nD, (⟨k0_dev20 c, k0_dev20_lt c⟩ : Dev nD) = peer 16 c := by decide +kernel
theorem e_dev21 : ∀ c : Dev nD, (⟨k0_dev21 c, k0_dev21_lt c⟩ : Dev nD) = peer 17 c := by decide +kernel
theorem e_off1_0 : ∀ c : Dev nD, k0_off1 c 0#32 4#32 = ![soff 0 0 c, 0] := by decide +kernel
theorem e_off1_1 : ∀ c : Dev nD, k0_off1 c 1408#32 2#32 = ![soff 1 0 c, 0] := by decide +kernel
theorem e_off2 : ∀ c : Dev nD, k0_off2 c = ![soff 2 0 c, 0] := by decide +kernel
theorem e_off3_0 : ∀ c : Dev nD, k0_off3 c 0#32 4#32 = ![off 0 1 c, 0] := by decide +kernel
theorem e_off3_1 : ∀ c : Dev nD, k0_off3 c 1408#32 2#32 = ![off 1 1 c, 0] := by decide +kernel
theorem e_off4 : ∀ c : Dev nD, k0_off4 c = ![off 2 1 c, 0] := by decide +kernel
theorem e_off5_0 : ∀ c : Dev nD, k0_off5 c 0#32 4#32 2#32 = ![soff 0 1 c, 0] := by decide +kernel
theorem e_off5_1 : ∀ c : Dev nD, k0_off5 c 1408#32 2#32 1#32 = ![soff 1 1 c, 0] := by decide +kernel
theorem e_off6 : ∀ c : Dev nD, k0_off6 c = ![soff 2 1 c, 0] := by decide +kernel
theorem e_off7_0 : ∀ c : Dev nD, k0_off7 c 0#32 4#32 2#32 = ![off 0 2 c, 0] := by decide +kernel
theorem e_off7_1 : ∀ c : Dev nD, k0_off7 c 1408#32 2#32 1#32 = ![off 1 2 c, 0] := by decide +kernel
theorem e_off8 : ∀ c : Dev nD, k0_off8 c = ![off 2 2 c, 0] := by decide +kernel
theorem e_off9_0 : ∀ c : Dev nD, k0_off9 c 0#32 4#32 2#32 1#32 = ![soff 0 2 c, 0] := by decide +kernel
theorem e_off9_1 : ∀ c : Dev nD, k0_off9 c 1408#32 2#32 1#32 4#32 = ![soff 1 2 c, 0] := by decide +kernel
theorem e_off10 : ∀ c : Dev nD, k0_off10 c = ![soff 2 2 c, 0] := by decide +kernel
theorem e_off11_0 : ∀ c : Dev nD, k0_off11 c 0#32 4#32 2#32 1#32 = ![off 0 3 c, 0] := by decide +kernel
theorem e_off11_1 : ∀ c : Dev nD, k0_off11 c 1408#32 2#32 1#32 4#32 = ![off 1 3 c, 0] := by decide +kernel
theorem e_off12 : ∀ c : Dev nD, k0_off12 c = ![off 2 3 c, 0] := by decide +kernel
theorem e_off13_0 : ∀ c : Dev nD, k0_off13 c 0#32 4#32 2#32 1#32 = ![off 0 3 c, 0] := by decide +kernel
theorem e_off13_1 : ∀ c : Dev nD, k0_off13 c 1408#32 2#32 1#32 4#32 = ![off 1 3 c, 0] := by decide +kernel
theorem e_off14 : ∀ c : Dev nD, k0_off14 c = ![off 2 3 c, 0] := by decide +kernel
theorem e_off15_0 : ∀ c : Dev nD, k0_off15 c 0#32 4#32 2#32 1#32 = ![off 0 2 c, 0] := by decide +kernel
theorem e_off15_1 : ∀ c : Dev nD, k0_off15 c 1408#32 2#32 1#32 4#32 = ![off 1 2 c, 0] := by decide +kernel
theorem e_off16 : ∀ c : Dev nD, k0_off16 c = ![off 2 2 c, 0] := by decide +kernel
theorem e_off17_0 : ∀ c : Dev nD, k0_off17 c 0#32 4#32 2#32 1#32 = ![off 0 1 c, 0] := by decide +kernel
theorem e_off17_1 : ∀ c : Dev nD, k0_off17 c 1408#32 2#32 1#32 4#32 = ![off 1 1 c, 0] := by decide +kernel
theorem e_off18 : ∀ c : Dev nD, k0_off18 c = ![off 2 1 c, 0] := by decide +kernel

end Cert.KernelIdeal.AllReduce

end
-- ==== Proof.Sched.lean ====
module

public import proofs.«01_k».proof.Proof.Proto

@[expose] public section

/-!
# Contents of the buffers, the schedule of the cells, what a device owes, the levels
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents, as functions of row and column -/

def xstg (c : Dev nD) : (cc0_stg0_0 : Ref sig .tc).ty.Contents (Elt F) :=
  (win0_0.blk (0 : Fin 1)).view.read (Elt F) ((s₀ m ρ).mem ((c : Thread nD τ).loc main_arg0))

/-- The index of a row and a column. -/
def rc (r q : ℕ) : S4096x2048.Idx := fun a => match a with
  | ⟨0, _⟩ => (⟨r % 4096, Nat.mod_lt _ (by decide)⟩ : Fin 4096)
  | ⟨1, _⟩ => (⟨q % 2048, Nat.mod_lt _ (by decide)⟩ : Fin 2048)

/-- Device `c`'s block of the argument; -/
def X (c : Dev nD) (r q : ℕ) : F .bf16 := k0_pay1 (xstg m ρ c) (rc r q)
/-- what its region of chunk `ci` holds at the beginning of step `s`; -/
def A (ci : Fin 3) : ℕ → Dev nD → ℕ → ℕ → F .bf16
  | 0, c => X m ρ c
  | s + 1, c => fun r q => FloatOps.addf (A ci s c r q) (A ci s (pt (ord ci s) c) r q)

/-- The chunk a row belongs to, and the device that finishes the row. -/
def chk (r : ℕ) : Fin 3 := if r < 1408 then 0 else if r < 2816 then 1 else 2
def wt (a : Fin 3) : ℕ := (![4, 2, 1] : Fin 3 → ℕ) a
def ownJ (ci : Fin 3) (j : ℕ) : Dev nD :=
  ⟨(j / 4 % 2 * wt (ord ci 0) + j / 2 % 2 * wt (ord ci 1) + j % 2 * wt (ord ci 2)) % 8, Nat.mod_lt _ (by decide)⟩
def own (r : ℕ) : Dev nD := ownJ (chk r) ((r - base (chk r)) / hh (chk r) 2)
/-- What every row holds in the end. -/
def fin (r q : ℕ) : F .bf16 := A m ρ (chk r) 3 (own r) r q

def jOf (ci : Fin 3) (c : Dev nD) : ℕ := 4 * bit (ord ci 0) c + 2 * bit (ord ci 1) c + bit (ord ci 2) c
theorem off3_eq : ∀ (ci : Fin 3) (c : Dev nD), off ci 3 c = base ci + hh ci 2 * jOf ci c ∧ ownJ ci (jOf ci c) = c ∧ 0 < hh ci 2
    ∧ jOf ci c < 8 := by decide +kernel
theorem base_tab : ∀ ci : Fin 3, base ci = ci.val * 1408 ∧ base ci + 8 * hh ci 2 = (![1408, 2816, 4096] : Fin 3 → ℕ) ci := by decide +kernel

theorem chk_of (ci : Fin 3) (r : ℕ) (h₁ : base ci ≤ r) (h₂ : r < base ci + 8 * hh ci 2) : chk r = ci := by
  obtain ⟨hb, he⟩ := base_tab ci
  rw [he] at h₂; rw [hb] at h₁
  unfold chk
  fin_cases ci <;> simp at h₁ h₂ <;> split_ifs <;> first | rfl | omega

theorem own_of (ci : Fin 3) (c : Dev nD) (r : ℕ) (h₁ : off ci 3 c ≤ r) (h₂ : r < off ci 3 c + hh ci 2) : chk r = ci ∧ own r = c := by
  obtain ⟨ho, hc, hp, h8⟩ := off3_eq ci c
  have hk : chk r = ci := by
    refine chk_of ci r (by omega) ?_
    have : hh ci 2 * jOf ci c + hh ci 2 ≤ 8 * hh ci 2 := by
      rw [← Nat.mul_succ, Nat.mul_comm 8]; exact Nat.mul_le_mul_left _ h8
    omega
  refine ⟨hk, ?_⟩
  unfold own; rw [hk]
  have : (r - base ci) / hh ci 2 = jOf ci c := by
    rw [Nat.div_eq_iff hp]
    constructor
    · rw [Nat.mul_comm]; omega
    · rw [Nat.mul_comm]; omega
  rw [this, hc]

theorem A_fin (ci : Fin 3) (c : Dev nD) (r q : ℕ) (h₁ : off ci 3 c ≤ r) (h₂ : r < off ci 3 c + hh ci 2) :
    A m ρ ci 3 c r q = fin m ρ r q := by
  obtain ⟨hk, ho⟩ := own_of ci c r h₁ h₂
  unfold fin; rw [hk, ho]

/-! ## Rows of the result's staging buffer and of the receive buffer -/

abbrev OLoc (c : Dev nD) : Loc nD τ sig := (c : Thread nD τ).loc cc0_stg1_0
abbrev RLoc (c : Dev nD) : Loc nD τ sig := (c : Thread nD τ).loc cc0_scratch0

def rowsO (lo n : ℕ) : Finset S4096x2048.Idx := Finset.univ.filter fun i => lo ≤ (i 0).val ∧ (i 0).val < lo + n
def rowsR (lo n : ℕ) : Finset S3584x2048.Idx := Finset.univ.filter fun i => lo ≤ (i 0).val ∧ (i 0).val < lo + n
theorem mem_rowsO {lo n : ℕ} {i : S4096x2048.Idx} : i ∈ rowsO lo n ↔ lo ≤ (i 0).val ∧ (i 0).val < lo + n := by simp [rowsO]
theorem mem_rowsR {lo n : ℕ} {i : S3584x2048.Idx} : i ∈ rowsR lo n ↔ lo ≤ (i 0).val ∧ (i 0).val < lo + n := by simp [rowsR]

/-- Contents of the staging buffer by row and column; of the receive buffer, row `lo` being row `so`. -/
def oC (g : ℕ → ℕ → F .bf16) : (cc0_stg1_0 : Ref sig .tc).ty.Contents (Elt F) := fun i => g (i 0).val (i 1).val
def rC (lo so : ℕ) (g : ℕ → ℕ → F .bf16) : (cc0_scratch0 : Ref sig .tc).ty.Contents (Elt F) := fun i => g ((i 0).val - lo + so) (i 1).val

def oPts (c : Dev nD) (lo n : ℕ) (g : ℕ → ℕ → F .bf16) : sProp 𝕄 := OLoc c ↦[rowsO lo n]{fullShare} (oC g : Buf (Elt F) (OLoc c))
def oAny (c : Dev nD) (lo n : ℕ) : sProp 𝕄 := iprop(∃ f : Buf (Elt F) (OLoc c), OLoc c ↦[rowsO lo n]{fullShare} f)
def rPts (c : Dev nD) (lo n so : ℕ) (g : ℕ → ℕ → F .bf16) : sProp 𝕄 := RLoc c ↦[rowsR lo n]{fullShare} (rC lo so g : Buf (Elt F) (RLoc c))
def rAny (c : Dev nD) (lo n : ℕ) : sProp 𝕄 := iprop(∃ f : Buf (Elt F) (RLoc c), RLoc c ↦[rowsR lo n]{fullShare} f)

omit [FloatOps F] in
instance oPts_storable (c : Dev nD) (lo n g) : BI.Storable (upEmb : UEmb _ 𝕄) (oPts (F := F) c lo n g) := by unfold oPts; infer_instance
omit [FloatOps F] in
instance oAny_storable (c : Dev nD) (lo n) : BI.Storable (upEmb : UEmb _ 𝕄) (oAny (F := F) c lo n) := by unfold oAny; infer_instance
omit [FloatOps F] in
instance rPts_storable (c : Dev nD) (lo n so g) : BI.Storable (upEmb : UEmb _ 𝕄) (rPts (F := F) c lo n so g) := by unfold rPts; infer_instance
omit [FloatOps F] in
instance rAny_storable (c : Dev nD) (lo n) : BI.Storable (upEmb : UEmb _ 𝕄) (rAny (F := F) c lo n) := by unfold rAny; infer_instance

omit [FloatOps F] in
theorem rowsO_disj {lo n lo' n' : ℕ} (h : lo + n ≤ lo' ∨ lo' + n' ≤ lo) : Disjoint (rowsO lo n) (rowsO lo' n') :=
  Finset.disjoint_left.mpr fun i hi hj => by rw [mem_rowsO] at hi hj; omega
omit [FloatOps F] in
theorem rowsO_union (lo n n' : ℕ) : rowsO lo n ∪ rowsO (lo + n) n' = rowsO lo (n + n') := by
  ext i; rw [Finset.mem_union, mem_rowsO, mem_rowsO, mem_rowsO]; omega

omit [FloatOps F] in
/-- Two neighbouring row sets are one. -/
theorem oPts_cut (c : Dev nD) (lo n n' : ℕ) (g : ℕ → ℕ → F .bf16) :
    (oPts c lo (n + n') g : sProp 𝕄) ⊣⊢ iprop(oPts c lo n g ∗ oPts c (lo + n) n' g) := by
  unfold oPts; rw [← rowsO_union]; exact pointsTo_union (rowsO_disj (.inl le_rfl))

omit [FloatOps F] in
/-- A region is its kept half and its sent half. -/
theorem oPts_halves (ci s : Fin 3) (c : Dev nD) (g : ℕ → ℕ → F .bf16) :
    (oPts c (off ci s.val c) (cur ci s.val) g : sProp 𝕄)
      ⊣⊢ iprop(oPts c (off ci (s.val + 1) c) (hh ci s.val) g ∗ oPts c (soff ci s.val c) (hh ci s.val) g) := by
  obtain ⟨h2, h | h⟩ := halves ci s c
  · rw [h2, Nat.two_mul, h.1, h.2]; exact oPts_cut c _ _ _ g
  · rw [h2, Nat.two_mul, h.1, h.2]
    exact ⟨(oPts_cut c _ _ _ g).1.trans sep_comm.1, sep_comm.1.trans (oPts_cut c _ _ _ g).2⟩

omit [FloatOps F] in
theorem oPts_congr (c : Dev nD) (lo n : ℕ) (g g' : ℕ → ℕ → F .bf16) (h : ∀ r q, lo ≤ r → r < lo + n → g r q = g' r q) :
    (oPts c lo n g : sProp 𝕄) = oPts c lo n g' := by
  unfold oPts; exact pointsTo_congr fun i hi => h _ _ (mem_rowsO.mp hi).1 (mem_rowsO.mp hi).2

theorem oPts_A_fin (ci : Fin 3) (c : Dev nD) :
    (oPts c (off ci 3 c) (hh ci 2) (A m ρ ci 3 c) : sProp 𝕄) = oPts c (off ci 3 c) (hh ci 2) (fin m ρ) :=
  oPts_congr c _ _ _ _ fun r q h₁ h₂ => A_fin m ρ ci c r q h₁ h₂

/-! ## The schedule -/

/-- The reduction transfers that cross axis `a` and land on the device across it: one of each step. -/
def kA (a : Fin 3) (s : Fin 3) : Fin 18 := kR s ⟨(a.val + 2 * s.val) % 3, Nat.mod_lt _ (by decide)⟩
def rFree (k : Fin 18) (c : Dev nD) : sProp 𝕄 := rAny (F := F) c (rb k) (hk k)
/-- What the device across axis `a` hands `c` with its barrier signal: the rows of its receive buffer that `c` writes. -/
def barPay (c : Dev nD) (a : Fin 3) : sProp 𝕄 :=
  iprop(rFree (F := F) (kA a 0) (pt a c) ∗ rFree (F := F) (kA a 1) (pt a c) ∗ rFree (F := F) (kA a 2) (pt a c))
/-- What a landed transfer hands its receiver `c`: a reduction one the landed rows and the sender's rows, that `c` gathers
    into later; a gathering one the rows of the result. -/
def recvPay (k : Fin 18) (c : Dev nD) : sProp 𝕄 :=
  if k.val < 9 then iprop(rPts c (rb k) (hk k) (off (ch k) ((st k).val + 1) c) (A m ρ (ch k) (st k).val (peer k c))
      ∗ oAny (F := F) (peer k c) (off (ch k) ((st k).val + 1) c) (hk k))
  else oPts c (off (ch k) ((st k).val + 1) (peer k c)) (hk k) (fin m ρ)
/-- What a sender's own completion hands it. -/
def sendPay (k : Fin 18) (c : Dev nD) : sProp 𝕄 :=
  if k.val < 9 then iprop(emp) else oPts c (off (ch k) ((st k).val + 1) c) (hk k) (fin m ρ)

/-- The transfer a DMA semaphore belongs to. -/
def kOf (i : Fin 38) : Fin 18 := ⟨(i.val + 16) % 18, Nat.mod_lt _ (by decide)⟩
theorem kOf_S : ∀ k : Fin 18, kOf (sS k) = k := by decide
theorem kOf_R : ∀ k : Fin 18, kOf (sR k) = k := by decide

def dutiesOf (sm : SemLoc sig) : Finset (Fin 3) := match sm with
  | .reg _ => Finset.univ
  | .dma i => if i.val < 2 then ∅ else {0}
def amountOf (sm : SemLoc sig) : ℕ := match sm with
  | .reg _ => 1
  | .dma i => N (kOf i)
def payOf (c : Dev nD) (sm : SemLoc sig) (d : Fin 3) : sProp 𝕄 := match sm with
  | .reg _ => barPay (F := F) c d
  | .dma i => if i.val < 20 then sendPay m ρ (kOf i) c else recvPay m ρ (kOf i) c

instance payOf_storable (c : Dev nD) (sm : SemLoc sig) (d : Fin 3) : BI.Storable (upEmb : UEmb _ 𝕄) (payOf m ρ c sm d) := by
  unfold payOf
  split
  · unfold barPay rFree; infer_instance
  · unfold sendPay recvPay; (repeat' split) <;> infer_instance

/-- One round, round 0: a barrier cell has a duty of one unit for each axis; a transfer's cell one of its credit. -/
def Rd : Rounds.Schedule (GSem nD τ sig) (Fin 3) 𝕄 where
  duties g r := if r = 0 ∧ g.1.2 = .tc then dutiesOf g.2 else ∅
  unitless _ := False
  amount g _ _ := amountOf g.2
  payload g _ d := payOf m ρ g.1.1 g.2 d
  amount_pos g _ _ _ := by
    unfold amountOf; split
    · exact Nat.one_pos
    · exact N_pos _

instance Rd_payload_storable (g : GSem nD τ sig) (r : ℕ) (d : Fin 3) :
    BI.Storable (upEmb : UEmb _ 𝕄) ((Rd (F := F) m ρ).payload g r d) := payOf_storable m ρ _ _ _

section Sched
variable (c : Dev nD) (k : Fin 18)

theorem duties_bar : (Rd (F := F) m ρ).duties (barCell c) 0 = Finset.univ := by dsimp only [Rd]; rw [if_pos ⟨rfl, rfl⟩]; rfl
theorem duties_send : (Rd (F := F) m ρ).duties (sendCell k c) 0 = {0} := by
  dsimp only [Rd]; rw [if_pos ⟨rfl, rfl⟩]; exact if_neg (by show ¬ (2 + k.val < 2); omega)
theorem duties_recv : (Rd (F := F) m ρ).duties (recvCell k c) 0 = {0} := by
  dsimp only [Rd]; rw [if_pos ⟨rfl, rfl⟩]; exact if_neg (by show ¬ (20 + k.val < 2); omega)
theorem duties_later (g : GSem nD τ sig) : ∀ r, 1 ≤ r → (Rd (F := F) m ρ).duties g r = ∅ :=
  fun r hr => by dsimp only [Rd]; rw [if_neg fun h => by omega]

theorem amount_bar (d : Fin 3) : (Rd (F := F) m ρ).amount (barCell c) 0 d = 1 := rfl
theorem amount_send (d : Fin 3) : (Rd (F := F) m ρ).amount (sendCell k c) 0 d = N k := congrArg N (kOf_S k)
theorem amount_recv (d : Fin 3) : (Rd (F := F) m ρ).amount (recvCell k c) 0 d = N k := congrArg N (kOf_R k)

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell k c) 0 = N k := by
  unfold Schedule.expect Schedule.amountOf; rw [duties_send, Finset.sum_singleton, amount_send]
theorem expect_recv : (Rd (F := F) m ρ).expect (recvCell k c) 0 = N k := by
  unfold Schedule.expect Schedule.amountOf; rw [duties_recv, Finset.sum_singleton, amount_recv]

theorem payload_bar (d : Fin 3) : (Rd (F := F) m ρ).payload (barCell c) 0 d = barPay (F := F) c d := rfl
theorem payload_send (d : Fin 3) : (Rd (F := F) m ρ).payload (sendCell k c) 0 d = sendPay m ρ k c := by
  show (if 2 + k.val < 20 then sendPay m ρ (kOf (sS k)) c else recvPay m ρ (kOf (sS k)) c) = _
  rw [if_pos (by omega), kOf_S]
theorem payload_recv (d : Fin 3) : (Rd (F := F) m ρ).payload (recvCell k c) 0 d = recvPay m ρ k c := by
  show (if 20 + k.val < 20 then sendPay m ρ (kOf (sR k)) c else recvPay m ρ (kOf (sR k)) c) = _
  rw [if_neg (by omega), kOf_R]

theorem rest_bar : bigSep ((Rd (F := F) m ρ).duties (barCell c) 0 \ ∅) (fun d => (Rd (F := F) m ρ).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons,
    bigSepL_singleton]
  rfl
theorem rest_send : bigSep ((Rd (F := F) m ρ).duties (sendCell k c) 0 \ ∅) (fun d => (Rd (F := F) m ρ).payload (sendCell k c) 0 d) = sendPay m ρ k c := by
  rw [Finset.sdiff_empty, duties_send, bigSep_singleton, payload_send]
theorem rest_recv : bigSep ((Rd (F := F) m ρ).duties (recvCell k c) 0 \ ∅) (fun d => (Rd (F := F) m ρ).payload (recvCell k c) 0 d) = recvPay m ρ k c := by
  rw [Finset.sdiff_empty, duties_recv, bigSep_singleton, payload_recv]

end Sched

/-! ## What a device owes; the levels -/

def kk (j : ℕ) : Fin 18 := ⟨17 - j, by omega⟩
/-- What a device owes when `j` transfers are left to be sent. -/
def Ow (c : Dev nD) : ℕ → CellTallies nD τ sig Unit
  | 0 => 0
  | j + 1 => Ow c j + tallyAt (recvCell (kk j) (peer (kk j) c)) () (N (kk j))
def O₂ (c : Dev nD) : CellTallies nD τ sig Unit := Ow c 18 + tallyAt (barCell (pt 2 c)) () 1
def O₁ (c : Dev nD) : CellTallies nD τ sig Unit := O₂ c + tallyAt (barCell (pt 1 c)) () 1
def O₀ (c : Dev nD) : CellTallies nD τ sig Unit := O₁ c + tallyAt (barCell (pt 0 c)) () 1

theorem Ow_at (c : Dev nD) (k : Fin 18) : Ow c (18 - k.val) = Ow c (17 - k.val) + tallyAt (recvCell k (peer k c)) () (N k) := by
  have h : 18 - k.val = (17 - k.val) + 1 := by omega
  have hk : kk (17 - k.val) = k := Fin.ext (by show 17 - (17 - k.val) = k.val; omega)
  rw [h]; show Ow c (17 - k.val) + tallyAt (recvCell (kk (17 - k.val)) (peer (kk (17 - k.val)) c)) () (N (kk (17 - k.val))) = _
  rw [hk]

def L (g : GSem nD τ sig) : Finset Unit := if g.1.2 = .tc then {()} else ∅
/-- Barrier cells at 1, transfer `k`'s receive cell at 2 more than its phase, everything else (staging, send) at 0. -/
def lv (g : GSem nD τ sig) (_ : Unit) : ℕ := match g.2 with
  | .reg _ => 1
  | .dma i => if i.val < 20 then 0 else 2 + (i.val - 20) / 3

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 18) (c : Dev nD) : lv (recvCell k c) () = 2 + k.val / 3 := by
  show (if 20 + k.val < 20 then 0 else 2 + (20 + k.val - 20) / 3) = _
  rw [if_neg (by omega), Nat.add_sub_cancel_left]
theorem lv_send (k : Fin 18) (c : Dev nD) : lv (sendCell k c) () = 0 := if_pos (by show 2 + k.val < 20; omega)

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem Ow_pos {c : Dev nD} {g : GSem nD τ sig} {u : Unit} : ∀ {j : ℕ}, j ≤ 18 → 0 < Ow c j g u → ∃ k : Fin 18, 18 - j ≤ k.val ∧ g = recvCell k (peer k c)
  | 0, _, h => absurd h (Nat.lt_irrefl 0)
  | j + 1, hj, h => by
    rw [show Ow c (j + 1) = Ow c j + tallyAt (recvCell (kk j) (peer (kk j) c)) () (N (kk j)) from rfl, Pi.add_apply, Finsupp.add_apply] at h
    by_cases h0 : 0 < Ow c j g u
    · obtain ⟨k, hk, hg⟩ := Ow_pos (by omega) h0; exact ⟨k, by omega, hg⟩
    · have h0 : Ow c j g u = 0 := by omega
      rw [h0, Nat.zero_add] at h
      exact ⟨kk j, by show 18 - (j + 1) ≤ 17 - j; omega, tally_pos h⟩

theorem O₀_pos {c : Dev nD} {g : GSem nD τ sig} {u : Unit} (h : 0 < O₀ c g u) :
    (∃ k : Fin 18, g = recvCell k (peer k c)) ∨ ∃ a : Fin 3, g = barCell (pt a c) := by
  unfold O₀ O₁ O₂ at h
  rw [Pi.add_apply, Finsupp.add_apply, Pi.add_apply, Finsupp.add_apply, Pi.add_apply, Finsupp.add_apply] at h
  by_cases h1 : 0 < Ow c 18 g u
  · obtain ⟨k, _, hg⟩ := Ow_pos le_rfl h1; exact .inl ⟨k, hg⟩
  · by_cases h2 : 0 < tallyAt (barCell (pt 2 c)) () 1 g u
    · exact .inr ⟨2, tally_pos h2⟩
    · by_cases h3 : 0 < tallyAt (barCell (pt 1 c)) () 1 g u
      · exact .inr ⟨1, tally_pos h3⟩
      · exact .inr ⟨0, tally_pos (by omega : 0 < tallyAt (barCell (pt 0 c)) () 1 g u)⟩

theorem mayWait_own (c : Dev nD) (sm : SemLoc sig) (j : ℕ) (hj : j ≤ 18) (hl : lv ((c : Thread nD τ), sm) () < 2 + (18 - j) / 3) :
    (levAts L lv : sProp 𝕄) ⊢ MayWait (c : Thread nD τ) sm () (Ow c j) :=
  MayOwe.of_cut (L := L) (lev := lv) (lv ((c : Thread nD τ), sm) ()) (fun p hp => by rw [Finset.mem_singleton.mp hp, L_tc]; exact Finset.mem_singleton_self _)
    (fun g u hg => by obtain ⟨k, _, rfl⟩ := Ow_pos hj hg; exact Finset.mem_singleton_self _)
    (fun p hp => by rw [Finset.mem_singleton.mp hp])
    (fun g u hg => by
      obtain ⟨k, hk, rfl⟩ := Ow_pos hj hg
      rw [show lv (recvCell k (peer k c)) u = 2 + k.val / 3 from lv_recv k _]
      have : (18 - j) / 3 ≤ k.val / 3 := Nat.div_le_div_right hk
      omega)

theorem mayWait_stage (c : Dev nD) (q : DmaSem sig) (hq : (q : Fin 38).val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨a, rfl⟩ <;> exact Finset.mem_singleton_self _)
      (fun p hp => by rw [Finset.mem_singleton.mp hp]; exact le_of_eq (if_pos (by omega)))
      (fun g u hg => by
        rcases O₀_pos hg with ⟨k, rfl⟩ | ⟨a, rfl⟩
        · rw [show lv (recvCell k (peer k c)) u = 2 + k.val / 3 from lv_recv k _]; omega
        · exact Nat.one_pos)
  · rw [MayWait_zero]; iintro -; iempintro

end Cert.KernelIdeal.AllReduce

end
-- ==== Proof.Steps.lean ====
module

public import proofs.«01_k».proof.Proof.Sched

@[expose] public section

/-!
# One step of the all-reduce at a time: a transfer, its two waits, its accumulation
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The slices -/

abbrev shp (n : ℕ) : Shape := ⟨2, ![n, 2048]⟩

section Slices
variable {n : ℕ}

abbrev oR (off : Fin 2 → ℕ) (inb : ∀ a, off a + (shp n).size a ≤ S4096x2048.size a) : Rect S4096x2048 := Rect.unit (s := S4096x2048) off (shp n).size inb
abbrev rR (off : Fin 2 → ℕ) (inb : ∀ a, off a + (shp n).size a ≤ S3584x2048.size a) : Rect S3584x2048 := Rect.unit (s := S3584x2048) off (shp n).size inb

omit [FloatOps F] in
theorem set_oR (lo : ℕ) (inb) : (oR (n := n) ![lo, 0] inb).set = rowsO lo n := by
  ext i
  rw [Rect.mem_set_unit, mem_rowsO]
  constructor
  · intro h; exact h 0
  · intro h a
    fin_cases a
    · exact h
    · exact ⟨Nat.zero_le _, by have := (i 1).isLt; show (i 1).val < 0 + 2048; rw [Nat.zero_add]; exact this⟩
omit [FloatOps F] in
theorem set_rR (lo : ℕ) (inb) : (rR (n := n) ![lo, 0] inb).set = rowsR lo n := by
  ext i
  rw [Rect.mem_set_unit, mem_rowsR]
  constructor
  · intro h; exact h 0
  · intro h a
    fin_cases a
    · exact h
    · exact ⟨Nat.zero_le _, by have := (i 1).isLt; show (i 1).val < 0 + 2048; rw [Nat.zero_add]; exact this⟩

/-- The rows from `lo` of contents given by row and column. -/
def vO (lo n : ℕ) (g : ℕ → ℕ → F .bf16) : (shp n).Idx → Elt F .bf16 := fun i => g (lo + (i 0).val) (i 1).val

theorem read_o (lo : ℕ) (inb) (g : ℕ → ℕ → F .bf16) :
    ((View.whole cc0_stg1_0).slice (oR (n := n) ![lo, 0] inb)).read (Elt F) (oC g) = vO lo n g := by
  funext x
  show g ((((oR (n := n) ![lo, 0] inb).emb x) 0).val) ((((oR (n := n) ![lo, 0] inb).emb x) 1).val) = g _ _
  rw [Rect.emb_apply, Rect.emb_apply]
  congr 1
  · show lo + 1 * (x 0).val = lo + (x 0).val; rw [Nat.one_mul]
  · show 0 + 1 * (x 1).val = (x 1).val; rw [Nat.one_mul, Nat.zero_add]
theorem read_r (lo so : ℕ) (inb) (g : ℕ → ℕ → F .bf16) :
    ((View.whole cc0_scratch0).slice (rR (n := n) ![lo, 0] inb)).read (Elt F) (rC lo so g) = vO so n g := by
  funext x
  show g ((((rR (n := n) ![lo, 0] inb).emb x) 0).val - lo + so) ((((rR (n := n) ![lo, 0] inb).emb x) 1).val) = g _ _
  rw [Rect.emb_apply, Rect.emb_apply]
  congr 1
  · show lo + 1 * (x 0).val - lo + so = so + (x 0).val; omega
  · show 0 + 1 * (x 1).val = (x 1).val; rw [Nat.one_mul, Nat.zero_add]

theorem write_o (lo : ℕ) (inb) (f : (cc0_stg1_0 : Ref sig .tc).ty.Contents (Elt F)) (g : ℕ → ℕ → F .bf16) :
    ∀ i ∈ rowsO lo n, ((View.whole cc0_stg1_0).slice (oR (n := n) ![lo, 0] inb)).write (Elt F) f (vO lo n g) Finset.univ i = oC (F := F) g i := by
  intro i hi
  rw [← set_oR lo inb, ← View.set_slice_whole cc0_stg1_0 (oR (n := n) ![lo, 0] inb)] at hi
  obtain ⟨x, -, rfl⟩ := Finset.mem_map.mp hi
  rw [View.write_emb_of_mem _ _ (Finset.mem_univ x), ← read_o lo inb g]
  rfl
theorem write_r (lo so : ℕ) (inb) (f : (cc0_scratch0 : Ref sig .tc).ty.Contents (Elt F)) (g : ℕ → ℕ → F .bf16) :
    ∀ i ∈ rowsR lo n, ((View.whole cc0_scratch0).slice (rR (n := n) ![lo, 0] inb)).write (Elt F) f (vO so n g) Finset.univ i = rC (F := F) lo so g i := by
  intro i hi
  rw [← set_rR lo inb, ← View.set_slice_whole cc0_scratch0 (rR (n := n) ![lo, 0] inb)] at hi
  obtain ⟨x, -, rfl⟩ := Finset.mem_map.mp hi
  rw [View.write_emb_of_mem _ _ (Finset.mem_univ x), ← read_r lo so inb g]
  rfl

end Slices

/-! ## The regions of the result's staging buffer -/

/-- Chunk `ci`'s region at step `s`; -/
def reg (ci : Fin 3) (s : ℕ) (c : Dev nD) (g : ℕ → ℕ → F .bf16) : sProp 𝕄 := oPts c (off ci s c) (cur ci s) g
/-- the rows of the device across that step's axis that `c` gathers into. -/
def oDst (ci : Fin 3) (s : ℕ) (c : Dev nD) : sProp 𝕄 := oAny (F := F) (pt (ord ci s) c) (off ci (s + 1) c) (cur ci (s + 1))

theorem hh_eq (ci : Fin 3) (s : ℕ) : hh ci s = cur ci (s + 1) := rfl

theorem soff_of_peer (ci s : Fin 3) (c : Dev nD) : soff ci s.val c = off ci (s.val + 1) (pt (ord ci s.val) c) := by
  have h := soff_peer ci s (pt (ord ci s.val) c); rw [pt_pt] at h; exact h

/-- A region is its kept half and the half that is the device across's. -/
theorem reg_halves (ci s : Fin 3) (c : Dev nD) (g : ℕ → ℕ → F .bf16) :
    (reg ci s.val c g : sProp 𝕄)
      ⊣⊢ iprop(reg ci (s.val + 1) c g ∗ oPts c (off ci (s.val + 1) (pt (ord ci s.val) c)) (cur ci (s.val + 1)) g) := by
  rw [← soff_of_peer]; exact oPts_halves ci s c g

/-! ## The cells' records -/

def records (K : Dev nD × Option (Fin 36) → ℕ) : sProp 𝕄 :=
  iprop((bigSep Finset.univ fun cj : Dev nD × Option (Fin 36) => cellInv ER (Rd m ρ) (K cj) (kcell cj))
    ∗ bigSep Finset.univ fun cj : Dev nD × Option (Fin 36) => reached ER (kcell cj) 0)

instance records_persistent (K : Dev nD × Option (Fin 36) → ℕ) : BI.Persistent (records m ρ K) := by unfold records; infer_instance

/-- What every step reads: the records and the levels. -/
def pers (K : Dev nD × Option (Fin 36) → ℕ) : sProp 𝕄 := iprop(records m ρ K ∗ levAts L lv)
instance pers_persistent (K : Dev nD × Option (Fin 36) → ℕ) : BI.Persistent (pers m ρ K) := by unfold pers; infer_instance

theorem rec_at (K : Dev nD × Option (Fin 36) → ℕ) (cj : Dev nD × Option (Fin 36)) :
    records m ρ K ⊢ iprop(cellInv ER (Rd m ρ) (K cj) (kcell cj) ∗ reached ER (kcell cj) 0) := by
  unfold records; exact BIClass.sep_mono (bigSep_elim (Finset.mem_univ cj)) (bigSep_elim (Finset.mem_univ cj))

theorem kcell_R (k : Fin 18) (c : Dev nD) : kcell (c, some (jR k)) = recvCell k c := by
  show ((c : Thread nD τ), osem (jR k)) = _; rw [osem_R]

theorem rec_bar (K : Dev nD × Option (Fin 36) → ℕ) (c : Dev nD) :
    pers m ρ K ⊢ iprop(cellInv ER (Rd m ρ) (K (c, none)) (barCell c) ∗ reached ER (barCell c) 0) := by
  unfold pers; exact sep_elim_left.trans (rec_at m ρ K (c, none))
theorem rec_send (K : Dev nD × Option (Fin 36) → ℕ) (k : Fin 18) (c : Dev nD) :
    pers m ρ K ⊢ iprop(cellInv ER (Rd m ρ) (K (c, some (jS k))) (sendCell k c) ∗ reached ER (sendCell k c) 0) := by
  unfold pers; exact sep_elim_left.trans (rec_at m ρ K (c, some (jS k)))
theorem rec_recv (K : Dev nD × Option (Fin 36) → ℕ) (k : Fin 18) (c : Dev nD) :
    pers m ρ K ⊢ iprop(cellInv ER (Rd m ρ) (K (c, some (jR k))) (recvCell k c) ∗ reached ER (recvCell k c) 0) := by
  rw [← kcell_R]; unfold pers; exact sep_elim_left.trans (rec_at m ρ K (c, some (jR k)))
theorem pers_lev (K : Dev nD × Option (Fin 36) → ℕ) : pers m ρ K ⊢ levAts L lv := by unfold pers; exact sep_elim_right

/-! ## A transfer's ghost state -/

def owe (c : Dev nD) (O : CellTallies nD τ sig Unit) : sProp 𝕄 := iprop(∃ W : Waits sig Unit, owes (c : Thread nD τ) O W)

/-- Before transfer `k` is sent; between then and its send wait; between the waits; after both. -/
def T0 (k : Fin 18) (c : Dev nD) : sProp 𝕄 :=
  iprop(dutyTok ER (sendCell k c) 0 0 ∗ dutyTok ER (recvCell k (peer k c)) 0 0 ∗ atPos ER (sendCell k c) 0 ∅ 0 ∗ atPos ER (recvCell k c) 0 ∅ 0
    ∗ cred (tallyAt (recvCell k c) () (N k)))
def T1 (k : Fin 18) (c : Dev nD) : sProp 𝕄 :=
  iprop(cred (tallyAt (sendCell k c) () (N k)) ∗ atPos ER (sendCell k c) 0 ∅ 0 ∗ atPos ER (recvCell k c) 0 ∅ 0 ∗ cred (tallyAt (recvCell k c) () (N k)))
def T2 (k : Fin 18) (c : Dev nD) : sProp 𝕄 :=
  iprop(semVal (sendCell k c) 0 ∗ atPos ER (recvCell k c) 0 ∅ 0 ∗ cred (tallyAt (recvCell k c) () (N k)))
def T3 (k : Fin 18) (c : Dev nD) : sProp 𝕄 := iprop(semVal (sendCell k c) 0 ∗ semVal (recvCell k c) 0)

/-! ## The steps -/

section Steps
variable (K : Dev nD × Option (Fin 36) → ℕ) (c : Dev nD)

/-- A wait on `k`'s send cell. -/
theorem wp_wait_send {α : Type} {Q : α → sProp 𝕄} (k : Fin 18) (j : ℕ) (hj : j ≤ 18) {q : DmaSem sig} (hq : q = sS k)
    {sp sp' : Space} {s s' : Shape} {e e' : EltTy} {src : Memref sig .tc sp' s' e'} {dst : Memref sig .tc sp s e}
    {hsrc : src.view.WordExact} {hdst : dst.view.WordExact} (hN : dst.view.dmaCredit = N k)
    {kt : PUnit → Prog (TpuEff nD τ sig (Elt F) Λ₀ .tc) α} :
    iprop(pers m ρ K ∗ T1 (F := F) k c ∗ owe c (Ow c j))
      ⊢ iprop((((T2 (F := F) k c ∗ sendPay m ρ k c) ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold T1 T2 owe
  iintro ⟨#HP, ⟨Hc, Hs, Hr, Hcr⟩, ⟨%W, HO⟩⟩ Hk
  ihave #HR := (rec_send m ρ K k c) $$ HP
  icases HR with ⟨#HI, -⟩
  iapply (Rounds.wp_wait_rest_token 𝒱₀ ER (Rd m ρ) (c : Thread nD τ) none (κ := K (c, some (jS k)))
      (wpE_waitDma2_eq 𝒱₀ (c : Thread nD τ) none Set.univ) (Set.mem_univ _) () (O := Ow c j) (W := W) (R := 0) (m := 0) (T := ∅)
      (by rw [Nat.zero_add, expect_send, hN])) $$ [Hc HO Hs]
  · isplitr; · iexact HI
    isplitl [Hc]; · rw [hN]; iexact Hc
    isplitl [HO]; · iexact HO
    isplitr
    · iapply (mayWait_own c (.dma (sS k)) j hj (by rw [lv_send]; omega)); iapply (pers_lev m ρ K); iexact HP
    iexact Hs
  iintro ⟨HO, Hs, -, Hpay⟩
  imod (Rounds.cell_close ER (Rd m ρ) (Set.mem_univ (K (c, some (jS k)))) (fun h => h) (R := 0 + 1) (duties_later m ρ (sendCell k c))) $$ [Hs] with Hz
  · isplitr; · iexact HI
    iexact Hs
  ihave Hp := (Entails.of_eq (rest_send m ρ c k)) $$ Hpay
  iapply Hk
  isplitr [HO]
  · isplitr [Hp]
    · isplitl [Hz]; · iexact Hz
      isplitl [Hr] <;> iassumption
    iexact Hp
  iexists _; iexact HO

/-- A wait on `k`'s receive cell. -/
theorem wp_wait_recv {α : Type} {Q : α → sProp 𝕄} (k : Fin 18) (j : ℕ) (hj : j ≤ 18) (hl : k.val / 3 < (18 - j) / 3) {q : DmaSem sig} (hq : q = sR k)
    {sp sp' : Space} {s s' : Shape} {e e' : EltTy} {src : Memref sig .tc sp' s' e'} {dst : Memref sig .tc sp s e}
    {hsrc : src.view.WordExact} {hdst : dst.view.WordExact} (hN : dst.view.dmaCredit = N k)
    {kt : PUnit → Prog (TpuEff nD τ sig (Elt F) Λ₀ .tc) α} :
    iprop(pers m ρ K ∗ T2 (F := F) k c ∗ owe c (Ow c j))
      ⊢ iprop((((T3 (F := F) k c ∗ recvPay m ρ k c) ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold T2 T3 owe
  iintro ⟨#HP, ⟨Hz0, Hr, Hcr⟩, ⟨%W, HO⟩⟩ Hk
  ihave #HR := (rec_recv m ρ K k c) $$ HP
  icases HR with ⟨#HI, -⟩
  iapply (Rounds.wp_wait_rest_token 𝒱₀ ER (Rd m ρ) (c : Thread nD τ) none (κ := K (c, some (jR k)))
      (wpE_waitDma2_eq 𝒱₀ (c : Thread nD τ) none Set.univ) (Set.mem_univ _) () (O := Ow c j) (W := W) (R := 0) (m := 0) (T := ∅)
      (by rw [Nat.zero_add, expect_recv, hN])) $$ [Hcr HO Hr]
  · isplitr; · iexact HI
    isplitl [Hcr]; · rw [hN]; iexact Hcr
    isplitl [HO]; · iexact HO
    isplitr
    · iapply (mayWait_own c (.dma (sR k)) j hj (by rw [lv_recv]; omega)); iapply (pers_lev m ρ K); iexact HP
    iexact Hr
  iintro ⟨HO, Hr, -, Hpay⟩
  imod (Rounds.cell_close ER (Rd m ρ) (Set.mem_univ (K (c, some (jR k)))) (fun h => h) (R := 0 + 1) (duties_later m ρ (recvCell k c))) $$ [Hr] with Hz
  · isplitr; · iexact HI
    iexact Hr
  ihave Hp := (Entails.of_eq (rest_recv m ρ c k)) $$ Hpay
  iapply Hk
  isplitr [HO]
  · isplitr [Hp]
    · isplitl [Hz0] <;> iassumption
    iexact Hp
  iexists _; iexact HO

/-! ### Payloads of a transfer by chunk and step -/

theorem recvPay_rs (k : Fin 18) (hk9 : k.val < 9) (ci : Fin 3) (s : Fin 3) (hci : ch k = ci) (hs : st k = s) :
    recvPay m ρ k c = iprop(rPts c (rb k) (cur ci (s.val + 1)) (off ci (s.val + 1) c) (A m ρ ci s.val (pt (ord ci s.val) c)) ∗ oDst (F := F) ci s.val c) := by
  subst hci hs; unfold recvPay; rw [if_pos hk9]; rfl
theorem recvPay_ag (k : Fin 18) (hk9 : ¬ k.val < 9) (ci : Fin 3) (s : Fin 3) (hci : ch k = ci) (hs : st k = s) :
    recvPay m ρ k c = oPts c (off ci (s.val + 1) (pt (ord ci s.val) c)) (cur ci (s.val + 1)) (fin m ρ) := by
  subst hci hs; unfold recvPay; rw [if_neg hk9]; rfl
theorem sendPay_rs (k : Fin 18) (hk9 : k.val < 9) : sendPay m ρ k c = iprop(emp) := if_pos hk9
theorem sendPay_ag (k : Fin 18) (hk9 : ¬ k.val < 9) (ci : Fin 3) (s : Fin 3) (hci : ch k = ci) (hs : st k = s) :
    sendPay m ρ k c = reg ci (s.val + 1) c (fin m ρ) := by
  subst hci hs; unfold sendPay; rw [if_neg hk9]; rfl

omit [FloatOps F] in
theorem hN_o (k : Fin 18) (n : ℕ) (hn : n = hk k) (off : Fin 2 → ℕ) (inb) (h) :
    ((oM.slice (Rect.unit (s := S4096x2048) off (shp n).size inb) h : Memref sig .tc .vmem (shp n) .bf16)).view.dmaCredit = N k := by subst hn; rfl
omit [FloatOps F] in
theorem hN_r (k : Fin 18) (n : ℕ) (hn : n = hk k) (off : Fin 2 → ℕ) (inb) (h) :
    ((rM.slice (Rect.unit (s := S3584x2048) off (shp n).size inb) h : Memref sig .tc .vmem (shp n) .bf16)).view.dmaCredit = N k := by subst hn; rfl

/-- The transfer of a reduction step: the half of the region that the device across keeps, into its receive buffer. -/
theorem wp_send_rs {α : Type} {Q : α → sProp 𝕄} (k : Fin 18) (hk9 : k.val < 9) (ci s : Fin 3) (hci : ch k = ci) (hs : st k = s) (n : ℕ) (hn : n = hk k)
    (d : Dev nD) (hd : d = peer k c) (lo lr : Fin 2 → ℕ) (hlo : lo = ![soff ci s.val c, 0]) (hlr : lr = ![rb k, 0])
    {inb} {inb'} {ho} {hr} {qs qr : DmaSem sig} (hqs : qs = sS k) (hqr : qr = sR k)
    {hsc : (rM.slice (Rect.unit (s := S3584x2048) lr (shp n).size inb') hr : Memref sig (Dev.tc d : Thread nD τ).2.kind .vmem (shp n) .bf16).view.ref.isScScratch = false}
    {hsrc : (oM.slice (Rect.unit (s := S4096x2048) lo (shp n).size inb) ho : Memref sig .tc .vmem (shp n) .bf16).view.WordExact}
    {hdst : (rM.slice (Rect.unit (s := S3584x2048) lr (shp n).size inb') hr : Memref sig .tc .vmem (shp n) .bf16).view.WordExact}
    {hsem : DmaTarget.Typed .vmem (.dma qr) (.remote (Dev.tc d : Thread nD τ) (rM.slice (Rect.unit (s := S3584x2048) lr (shp n).size inb') hr) (.dma qs) hsc)}
    {kt : PUnit → Prog (TpuEff nD τ sig (Elt F) Λ₀ .tc) α} :
    iprop(pers m ρ K ∗ T0 (F := F) k c ∗ rFree (F := F) k (peer k c) ∗ reg ci s.val c (A m ρ ci s.val c) ∗ owe c (Ow c (18 - k.val)))
      ⊢ iprop((((T1 (F := F) k c ∗ reg ci (s.val + 1) c (A m ρ ci s.val c)) ∗ owe c (Ow c (17 - k.val)))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oM.slice (Rect.unit (s := S4096x2048) lo (shp n).size inb) ho)
                (.remote (Dev.tc d : Thread nD τ) (rM.slice (Rect.unit (s := S3584x2048) lr (shp n).size inb') hr) (.dma qs) hsc) (.dma qr) hsrc hdst hsem) kt) Q) := by
  subst hd hqs hqr hlo hlr hn
  unfold T0 T1 owe rFree rAny
  iintro ⟨#HP, ⟨HtS, HtR, Hs, Hr, Hcr⟩, ⟨%fn, HR⟩, Hreg, ⟨%W, HO⟩⟩ Hk
  ihave #HRs := (rec_send m ρ K k c) $$ HP
  icases HRs with ⟨#HIs, #Hrs⟩
  ihave #HRr := (rec_recv m ρ K k (peer k c)) $$ HP
  icases HRr with ⟨#HIr, #Hrr⟩
  ihave Hh := (reg_halves ci s c (A m ρ ci s.val c)).1 $$ Hreg
  icases Hh with ⟨Hkeep, Hsend⟩
  rw [Ow_at c k]
  have hso : (oR (n := hk k) ![soff ci s.val c, 0] inb).set = rowsO (soff ci s.val c) (hk k) := set_oR _ inb
  have hsr : (rR (n := hk k) ![rb k, 0] inb').set = rowsR (rb k) (hk k) := set_rR _ inb'
  have hhk : hk k = cur ci (s.val + 1) := by subst hci hs; rfl
  have hSo : (oM.slice (Rect.unit (s := S4096x2048) ![soff ci s.val c, 0] (shp (hk k)).size inb) ho : Memref sig .tc .vmem (shp (hk k)) .bf16).view.set
      = rowsO (soff ci s.val c) (hk k) := (View.set_slice_whole cc0_stg1_0 _).trans hso
  have hSo' := hSo.trans (congrArg₂ rowsO (soff_of_peer ci s c) hhk)
  have hSr : (rM.slice (Rect.unit (s := S3584x2048) ![rb k, 0] (shp (hk k)).size inb') hr : Memref sig .tc .vmem (shp (hk k)) .bf16).view.set
      = rowsR (rb k) (hk k) := (View.set_slice_whole cc0_scratch0 _).trans hsr
  iapply (Rounds.wp_send_landing_pointsTo 𝒱₀ ER (Rd m ρ) (c : Thread nD τ) none (c' := (peer k c : Thread nD τ)) (sem := .dma (sR k)) (sS := .dma (sS k))
    (src := (oM.slice (Rect.unit (s := S4096x2048) ![soff ci s.val c, 0] (shp (hk k)).size inb) ho : Memref sig .tc .vmem (shp (hk k)) .bf16))
    (dst := (rM.slice (Rect.unit (s := S3584x2048) ![rb k, 0] (shp (hk k)).size inb') hr : Memref sig .tc .vmem (shp (hk k)) .bf16)) (κ₁ := K (c, some (jS k))) (κ₂ := K (peer k c, some (jR k)))
    (r₁ := 0) (r₂ := 0) (d₁ := 0) (d₂ := 0) (fs := (oC (A m ρ ci s.val c) : Buf (Elt F) (OLoc c))) (fd := fn) (q := fullShare)
    (by rw [duties_send]; exact Finset.mem_singleton_self _) (by rw [duties_recv]; exact Finset.mem_singleton_self _)
    () () (N k) (hN_r k _ rfl _ inb' hr) (amount_send m ρ c k 0) (amount_recv m ρ (peer k c) k 0) (Ow c (17 - k.val)) rfl (W := W)
    (by rw [payload_send, sendPay_rs m ρ c k hk9])
    (by
      rw [payload_recv, recvPay_rs m ρ (peer k c) k hk9 ci s hci hs, hSo, hSr]
      refine BIClass.sep_mono ?_ ?_
      · unfold rPts
        rw [← hhk]
        refine Entails.of_eq (pointsTo_congr fun i hi => ?_)
        have hp : pt (ord ci s.val) (peer k c) = c := by subst hci hs; exact peer_peer k c
        have hq : off ci (s.val + 1) (peer k c) = soff ci s.val c := by subst hci hs; exact (soff_of_peer _ _ c).symm
        rw [hp, hq, ← write_r (rb k) (soff ci s.val c) inb' fn (A m ρ ci s.val c) i hi, ← read_o (soff ci s.val c) inb]
      · unfold oDst oAny
        have hp : pt (ord ci s.val) (peer k c) = c := by subst hci hs; exact peer_peer k c
        have hq : off ci (s.val + 1) (peer k c) = soff ci s.val c := by subst hci hs; exact (soff_of_peer _ _ c).symm
        rw [hp, hq, ← hhk]
        iintro H
        iexists _
        iexact H)) $$ [Hsend HR HO HtS HtR]
  · isplitr; · iexact HIs
    isplitr; · iexact HIr
    isplitl [Hsend]
    · unfold oPts; rw [hSo']; iexact Hsend
    isplitl [HR]; · rw [hSr]; iexact HR
    isplitl [HO]; · iexact HO
    isplitl [HtS]; · iexact HtS
    isplitr; · iexact Hrs
    isplitl [HtR]; · iexact HtR
    iexact Hrr
  iintro ⟨Hc, HO⟩
  iapply Hk
  isplitr [HO]
  · isplitr [Hkeep]
    · isplitl [Hc]; · iexact Hc
      isplitl [Hs]; · iexact Hs
      isplitl [Hr] <;> iassumption
    iexact Hkeep
  iexists _; iexact HO

/-- The transfer of a gathering step: the region, into the same rows of the device across. -/
theorem wp_send_ag {α : Type} {Q : α → sProp 𝕄} (k : Fin 18) (hk9 : ¬ k.val < 9) (ci s : Fin 3) (hci : ch k = ci) (hs : st k = s) (n : ℕ) (hn : n = hk k)
    (d : Dev nD) (hd : d = peer k c) (lo : Fin 2 → ℕ) (hlo : lo = ![off ci (s.val + 1) c, 0])
    {inb} {ho} {qs qr : DmaSem sig} (hqs : qs = sS k) (hqr : qr = sR k)
    {hsc : (oM.slice (Rect.unit (s := S4096x2048) lo (shp n).size inb) ho : Memref sig (Dev.tc d : Thread nD τ).2.kind .vmem (shp n) .bf16).view.ref.isScScratch = false}
    {hsrc : (oM.slice (Rect.unit (s := S4096x2048) lo (shp n).size inb) ho : Memref sig .tc .vmem (shp n) .bf16).view.WordExact}
    {hdst : (oM.slice (Rect.unit (s := S4096x2048) lo (shp n).size inb) ho : Memref sig .tc .vmem (shp n) .bf16).view.WordExact}
    {hsem : DmaTarget.Typed .vmem (.dma qr) (.remote (Dev.tc d : Thread nD τ) (oM.slice (Rect.unit (s := S4096x2048) lo (shp n).size inb) ho) (.dma qs) hsc)}
    {kt : PUnit → Prog (TpuEff nD τ sig (Elt F) Λ₀ .tc) α} :
    iprop(pers m ρ K ∗ T0 (F := F) k c ∗ oDst (F := F) ci s.val c ∗ reg ci (s.val + 1) c (fin m ρ) ∗ owe c (Ow c (18 - k.val)))
      ⊢ iprop(((T1 (F := F) k c ∗ owe c (Ow c (17 - k.val)))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oM.slice (Rect.unit (s := S4096x2048) lo (shp n).size inb) ho)
                (.remote (Dev.tc d : Thread nD τ) (oM.slice (Rect.unit (s := S4096x2048) lo (shp n).size inb) ho) (.dma qs) hsc) (.dma qr) hsrc hdst hsem) kt) Q) := by
  subst hd hqs hqr hlo hn
  unfold T0 T1 owe oDst oAny
  iintro ⟨#HP, ⟨HtS, HtR, Hs, Hr, Hcr⟩, ⟨%fn, HD⟩, Hreg, ⟨%W, HO⟩⟩ Hk
  ihave #HRs := (rec_send m ρ K k c) $$ HP
  icases HRs with ⟨#HIs, #Hrs⟩
  ihave #HRr := (rec_recv m ρ K k (peer k c)) $$ HP
  icases HRr with ⟨#HIr, #Hrr⟩
  rw [Ow_at c k]
  have hhk : hk k = cur ci (s.val + 1) := by subst hci hs; rfl
  have hpe : pt (ord ci s.val) c = peer k c := by subst hci hs; rfl
  have hSo : (oM.slice (Rect.unit (s := S4096x2048) ![off ci (s.val + 1) c, 0] (shp (hk k)).size inb) ho : Memref sig .tc .vmem (shp (hk k)) .bf16).view.set
      = rowsO (off ci (s.val + 1) c) (hk k) := (View.set_slice_whole cc0_stg1_0 _).trans (set_oR _ inb)
  have hSo' := hSo.trans (congrArg (rowsO (off ci (s.val + 1) c)) hhk)
  rw [hpe]
  iapply (Rounds.wp_send_pointsTo 𝒱₀ ER (Rd m ρ) (c : Thread nD τ) none (c' := (peer k c : Thread nD τ)) (sem := .dma (sR k)) (sS := .dma (sS k))
    (src := (oM.slice (Rect.unit (s := S4096x2048) ![off ci (s.val + 1) c, 0] (shp (hk k)).size inb) ho : Memref sig .tc .vmem (shp (hk k)) .bf16))
    (dst := (oM.slice (Rect.unit (s := S4096x2048) ![off ci (s.val + 1) c, 0] (shp (hk k)).size inb) ho : Memref sig .tc .vmem (shp (hk k)) .bf16)) (κ₁ := K (c, some (jS k))) (κ₂ := K (peer k c, some (jR k)))
    (r₁ := 0) (r₂ := 0) (d₁ := 0) (d₂ := 0) (fs := (oC (fin m ρ) : Buf (Elt F) (OLoc c))) (fd := fn) (q := fullShare)
    (by rw [duties_send]; exact Finset.mem_singleton_self _) (by rw [duties_recv]; exact Finset.mem_singleton_self _)
    () () (N k) (hN_o k _ rfl _ inb ho) (amount_send m ρ c k 0) (amount_recv m ρ (peer k c) k 0) (Ow c (17 - k.val)) rfl (W := W)
    (by rw [payload_send, sendPay_ag m ρ c k hk9 ci s hci hs, hSo']; unfold reg oPts; exact BI.Entails.refl _)
    (by
      have hp : pt (ord ci s.val) (peer k c) = c := by subst hci hs; exact peer_peer k c
      rw [payload_recv, recvPay_ag m ρ (peer k c) k hk9 ci s hci hs, hSo, hp, ← hhk]
      unfold oPts
      refine Entails.of_eq (pointsTo_congr fun i hi => ?_)
      rw [← write_o (off ci (s.val + 1) c) inb fn (fin m ρ) i hi, ← read_o (off ci (s.val + 1) c) inb])) $$ [Hreg HD HO HtS HtR]
  · isplitr; · iexact HIs
    isplitr; · iexact HIr
    isplitl [Hreg]
    · unfold reg oPts; rw [hSo']; iexact Hreg
    isplitl [HD]; · rw [hSo']; iexact HD
    isplitl [HO]; · iexact HO
    isplitl [HtS]; · iexact HtS
    isplitr; · iexact Hrs
    isplitl [HtR]; · iexact HtR
    iexact Hrr
  iintro ⟨Hc, HO⟩
  iapply Hk
  isplitr [HO]
  · isplitl [Hc]; · iexact Hc
    isplitl [Hs]; · iexact Hs
    isplitl [Hr] <;> iassumption
  iexists _; iexact HO

/-! ### Loads and stores -/

theorem wp_load_o {α : Type} {Q : α → sProp 𝕄} (lo n : ℕ) (g : ℕ → ℕ → F .bf16) (off : Fin 2 → ℕ) (hoff : off = ![lo, 0]) {inb}
    {hl : (oM : Memref sig .tc .vmem S4096x2048 .bf16).view.LoadsAt (Rect.unit (s := S4096x2048) off (shp n).size inb).toLoadRect}
    {kt : ((shp n).Idx → Elt F .bf16) → Prog (TpuEff nD τ sig (Elt F) Λ₀ .tc) α} :
    oPts c lo n g ⊢ iprop((oPts c lo n g -∗ wp frame (wpE (defs₀ (F := F)) 𝒱₀ (c : Thread nD τ) none) Set.univ (kt (vO lo n g)) Q)
        -∗ wp frame (wpE (defs₀ (F := F)) 𝒱₀ (c : Thread nD τ) none) Set.univ (.op (.load oM (Rect.unit (s := S4096x2048) off (shp n).size inb).toLoadRect hl) kt) Q) := by
  subst hoff
  have h := wp_load_rect (Q := Q) (defs := defs₀ (F := F)) (Ix := Unit) (Name := ℕ) (U := UU) (Lvl := ℕ) (Γ := .empty) 𝒱₀ (c : Thread nD τ) none Set.univ (m := oM)
    (r := oR (n := n) ![lo, 0] inb) (hl := hl) (k := kt) (S := rowsO lo n) (q := fullShare) (f := (oC g : Buf (Elt F) (OLoc c)))
    (by rw [← set_oR lo inb]; exact (View.set_slice_whole cc0_stg1_0 _).le)
  have hr : ((oM : Memref sig .tc .vmem S4096x2048 .bf16).access (oR (n := n) ![lo, 0] inb)).read (Elt F) (oC g) = vO lo n g := read_o lo inb g
  rw [hr] at h
  exact h
theorem wp_load_r {α : Type} {Q : α → sProp 𝕄} (lo n so : ℕ) (g : ℕ → ℕ → F .bf16) (off : Fin 2 → ℕ) (hoff : off = ![lo, 0]) {inb}
    {hl : (rM : Memref sig .tc .vmem S3584x2048 .bf16).view.LoadsAt (Rect.unit (s := S3584x2048) off (shp n).size inb).toLoadRect}
    {kt : ((shp n).Idx → Elt F .bf16) → Prog (TpuEff nD τ sig (Elt F) Λ₀ .tc) α} :
    rPts c lo n so g ⊢ iprop((rPts c lo n so g -∗ wp frame (wpE (defs₀ (F := F)) 𝒱₀ (c : Thread nD τ) none) Set.univ (kt (vO so n g)) Q)
        -∗ wp frame (wpE (defs₀ (F := F)) 𝒱₀ (c : Thread nD τ) none) Set.univ (.op (.load rM (Rect.unit (s := S3584x2048) off (shp n).size inb).toLoadRect hl) kt) Q) := by
  subst hoff
  have h := wp_load_rect (Q := Q) (defs := defs₀ (F := F)) (Ix := Unit) (Name := ℕ) (U := UU) (Lvl := ℕ) (Γ := .empty) 𝒱₀ (c : Thread nD τ) none Set.univ (m := rM)
    (r := rR (n := n) ![lo, 0] inb) (hl := hl) (k := kt) (S := rowsR lo n) (q := fullShare) (f := (rC lo so g : Buf (Elt F) (RLoc c)))
    (by rw [← set_rR lo inb]; exact (View.set_slice_whole cc0_scratch0 _).le)
  have hr : ((rM : Memref sig .tc .vmem S3584x2048 .bf16).access (rR (n := n) ![lo, 0] inb)).read (Elt F) (rC lo so g) = vO so n g := read_r lo so inb g
  rw [hr] at h
  exact h
theorem wp_store_o {α : Type} {Q : α → sProp 𝕄} (lo n : ℕ) (g g' : ℕ → ℕ → F .bf16) (off : Fin 2 → ℕ) (hoff : off = ![lo, 0]) {inb}
    {w : (shp n).Idx → Elt F .bf16} (hw : w = vO lo n g')
    {hx : ((oM : Memref sig .tc .vmem S4096x2048 .bf16).access (Rect.unit (s := S4096x2048) off (shp n).size inb)).Stores Finset.univ} {hm}
    {kt : PUnit → Prog (TpuEff nD τ sig (Elt F) Λ₀ .tc) α} :
    oPts c lo n g ⊢ iprop((oPts c lo n g' -∗ wp frame (wpE (defs₀ (F := F)) 𝒱₀ (c : Thread nD τ) none) Set.univ (kt ⟨⟩) Q)
        -∗ wp frame (wpE (defs₀ (F := F)) 𝒱₀ (c : Thread nD τ) none) Set.univ
            (.op (.store oM (Rect.unit (s := S4096x2048) off (shp n).size inb) w Finset.univ hx hm) kt) Q) := by
  subst hoff hw
  have h := wp_store (Q := Q) (defs := defs₀ (F := F)) (Ix := Unit) (Name := ℕ) (U := UU) (Lvl := ℕ) (Γ := .empty) 𝒱₀ (c : Thread nD τ) none Set.univ (m := oM)
    (r := oR (n := n) ![lo, 0] inb) (w := vO lo n g') (Mk := Finset.univ) (hx := hx) (hm := hm) (k := kt) (S := rowsO lo n) (f := (oC g : Buf (Elt F) (OLoc c)))
    (by rw [← set_oR lo inb]; exact (View.set_slice_whole cc0_stg1_0 _).le)
  refine h.trans (wand_mono_left (wand_mono_left ?_))
  unfold oPts
  exact Entails.of_eq (pointsTo_congr fun i hi => write_o lo inb _ g' i hi)

end Steps

end Cert.KernelIdeal.AllReduce

end
-- ==== Proof.Ops.lean ====
module

public import proofs.«01_k».proof.Proof.Steps
public import Idealize.ShloMosaic.Lib.Pipeline.Value

@[expose] public section

/-!
# The steps as the kernel's parts use them

Each names its transfer's chunk, step and rows by numbers, with the equations to the protocol's tables as hypotheses.
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 36) → ℕ) (c : Dev nD)

theorem Ow_succ (k : Fin 18) (j : ℕ) (hj : j + k.val = 17) : Ow c (18 - k.val) = Ow c (j + 1) ∧ Ow c (17 - k.val) = Ow c j := by
  constructor <;> congr 1 <;> omega

/-! ## Waits -/

theorem wait_send_rs {α : Type} {Q : α → sProp 𝕄} (k : Fin 18) (hk9 : k.val < 9) (n : ℕ) (hn : n = hk k) (j : ℕ) (hj : j ≤ 18)
    {q : DmaSem sig} (hq : q = sS k) {off : Fin 2 → ℕ} {inb} {h}
    {sp' : Space} {s' : Shape} {e' : EltTy} {src : Memref sig .tc sp' s' e'} {hsrc : src.view.WordExact}
    {hdst : (oM.slice (Rect.unit (s := S4096x2048) off (shp n).size inb) h : Memref sig .tc .vmem (shp n) .bf16).view.WordExact}
    {kt : PUnit → Prog (TpuEff nD τ sig (Elt F) Λ₀ .tc) α} :
    iprop(pers m ρ K ∗ T1 (F := F) k c ∗ owe c (Ow c j))
      ⊢ iprop(((T2 (F := F) k c ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src (oM.slice (Rect.unit (s := S4096x2048) off (shp n).size inb) h) hsrc hdst) kt) Q) := by
  iintro H Hk
  iapply (wp_wait_send m ρ K c k j hj hq (hN_o k n hn off inb h)) $$ H
  iintro ⟨⟨HT, -⟩, HO⟩
  iapply Hk
  isplitl [HT] <;> iassumption

theorem wait_recv_rs {α : Type} {Q : α → sProp 𝕄} (k : Fin 18) (hk9 : k.val < 9) (ci s : Fin 3) (hci : ch k = ci) (hs : st k = s)
    (s₀ s₁ : ℕ) (h₀ : s.val = s₀) (h₁ : s₀ + 1 = s₁) (lr : ℕ) (hlr : rb k = lr) (n : ℕ) (hn : n = hk k) (j : ℕ) (hj : j ≤ 18) (hl : k.val / 3 < (18 - j) / 3)
    {q : DmaSem sig} (hq : q = sR k) {off' : Fin 2 → ℕ} {inb} {h}
    {sp' : Space} {s' : Shape} {e' : EltTy} {src : Memref sig .tc sp' s' e'} {hsrc : src.view.WordExact}
    {hdst : (rM.slice (Rect.unit (s := S3584x2048) off' (shp n).size inb) h : Memref sig .tc .vmem (shp n) .bf16).view.WordExact}
    {kt : PUnit → Prog (TpuEff nD τ sig (Elt F) Λ₀ .tc) α} :
    iprop(pers m ρ K ∗ T2 (F := F) k c ∗ owe c (Ow c j))
      ⊢ iprop(((T3 (F := F) k c ∗ rPts c lr n (off ci s₁ c) (A m ρ ci s₀ (pt (ord ci s₀) c)) ∗ oDst (F := F) ci s₀ c ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src (rM.slice (Rect.unit (s := S3584x2048) off' (shp n).size inb) h) hsrc hdst) kt) Q) := by
  iintro H Hk
  iapply (wp_wait_recv m ρ K c k j hj hl hq (hN_r k n hn off' inb h)) $$ H
  iintro ⟨⟨HT, Hp⟩, HO⟩
  have hhk : n = cur ci (s.val + 1) := by subst hn hci hs; rfl
  subst h₀ h₁ hlr
  ihave Hp' := (Entails.of_eq (recvPay_rs m ρ c k hk9 ci s hci hs)) $$ Hp
  icases Hp' with ⟨HR, HD⟩
  iapply Hk
  isplitl [HT]; · iexact HT
  isplitl [HR]; · rw [hhk]; iexact HR
  isplitl [HD] <;> iassumption

theorem wait_send_ag {α : Type} {Q : α → sProp 𝕄} (k : Fin 18) (hk9 : ¬ k.val < 9) (ci s : Fin 3) (hci : ch k = ci) (hs : st k = s)
    (s₁ : ℕ) (h₁ : s.val + 1 = s₁) (n : ℕ) (hn : n = hk k) (j : ℕ) (hj : j ≤ 18)
    {q : DmaSem sig} (hq : q = sS k) {off : Fin 2 → ℕ} {inb} {h}
    {sp' : Space} {s' : Shape} {e' : EltTy} {src : Memref sig .tc sp' s' e'} {hsrc : src.view.WordExact}
    {hdst : (oM.slice (Rect.unit (s := S4096x2048) off (shp n).size inb) h : Memref sig .tc .vmem (shp n) .bf16).view.WordExact}
    {kt : PUnit → Prog (TpuEff nD τ sig (Elt F) Λ₀ .tc) α} :
    iprop(pers m ρ K ∗ T1 (F := F) k c ∗ owe c (Ow c j))
      ⊢ iprop(((T2 (F := F) k c ∗ reg ci s₁ c (fin m ρ) ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src (oM.slice (Rect.unit (s := S4096x2048) off (shp n).size inb) h) hsrc hdst) kt) Q) := by
  subst h₁
  iintro H Hk
  iapply (wp_wait_send m ρ K c k j hj hq (hN_o k n hn off inb h)) $$ H
  iintro ⟨⟨HT, Hp⟩, HO⟩
  ihave Hp' := (Entails.of_eq (sendPay_ag m ρ c k hk9 ci s hci hs)) $$ Hp
  iapply Hk
  isplitl [HT]; · iexact HT
  isplitl [Hp'] <;> iassumption

theorem wait_recv_ag {α : Type} {Q : α → sProp 𝕄} (k : Fin 18) (hk9 : ¬ k.val < 9) (ci s : Fin 3) (hci : ch k = ci) (hs : st k = s)
    (s₀ s₁ : ℕ) (h₀ : s.val = s₀) (h₁ : s₀ + 1 = s₁) (n : ℕ) (hn : n = hk k) (j : ℕ) (hj : j ≤ 18) (hl : k.val / 3 < (18 - j) / 3)
    {q : DmaSem sig} (hq : q = sR k) {off' : Fin 2 → ℕ} {inb} {h}
    {sp' : Space} {s' : Shape} {e' : EltTy} {src : Memref sig .tc sp' s' e'} {hsrc : src.view.WordExact}
    {hdst : (oM.slice (Rect.unit (s := S4096x2048) off' (shp n).size inb) h : Memref sig .tc .vmem (shp n) .bf16).view.WordExact}
    {kt : PUnit → Prog (TpuEff nD τ sig (Elt F) Λ₀ .tc) α} :
    iprop(pers m ρ K ∗ T2 (F := F) k c ∗ reg ci s₁ c (fin m ρ) ∗ owe c (Ow c j))
      ⊢ iprop(((T3 (F := F) k c ∗ reg ci s₀ c (fin m ρ) ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src (oM.slice (Rect.unit (s := S4096x2048) off' (shp n).size inb) h) hsrc hdst) kt) Q) := by
  subst h₀ h₁
  iintro ⟨#HP, HT, HG, HO⟩ Hk
  iapply (wp_wait_recv m ρ K c k j hj hl hq (hN_o k n hn off' inb h)) $$ [HT HO]
  · isplitr; · iexact HP
    isplitl [HT] <;> iassumption
  iintro ⟨⟨HT, Hp⟩, HO⟩
  ihave Hp' := (Entails.of_eq (recvPay_ag m ρ c k hk9 ci s hci hs)) $$ Hp
  iapply Hk
  isplitl [HT]; · iexact HT
  isplitr [HO]
  · iapply (reg_halves ci s c (fin m ρ)).2
    isplitl [HG] <;> iassumption
  iexact HO

/-! ## Transfers -/

theorem send_rs {α : Type} {Q : α → sProp 𝕄} (k : Fin 18) (hk9 : k.val < 9) (ci s : Fin 3) (hci : ch k = ci) (hs : st k = s)
    (s₀ s₁ : ℕ) (h₀ : s.val = s₀) (h₁ : s₀ + 1 = s₁) (j : ℕ) (hj : j + k.val = 17) (n : ℕ) (hn : n = hk k)
    (d : Dev nD) (hd : d = peer k c) (lo lr : Fin 2 → ℕ) (hlo : lo = ![soff ci s₀ c, 0]) (hlr : lr = ![rb k, 0])
    {inb} {inb'} {ho} {hr} {qs qr : DmaSem sig} (hqs : qs = sS k) (hqr : qr = sR k)
    {hsc : (rM.slice (Rect.unit (s := S3584x2048) lr (shp n).size inb') hr : Memref sig (Dev.tc d : Thread nD τ).2.kind .vmem (shp n) .bf16).view.ref.isScScratch = false}
    {hsrc : (oM.slice (Rect.unit (s := S4096x2048) lo (shp n).size inb) ho : Memref sig .tc .vmem (shp n) .bf16).view.WordExact}
    {hdst : (rM.slice (Rect.unit (s := S3584x2048) lr (shp n).size inb') hr : Memref sig .tc .vmem (shp n) .bf16).view.WordExact}
    {hsem : DmaTarget.Typed .vmem (.dma qr) (.remote (Dev.tc d : Thread nD τ) (rM.slice (Rect.unit (s := S3584x2048) lr (shp n).size inb') hr) (.dma qs) hsc)}
    {kt : PUnit → Prog (TpuEff nD τ sig (Elt F) Λ₀ .tc) α} :
    iprop(pers m ρ K ∗ T0 (F := F) k c ∗ rFree (F := F) k (peer k c) ∗ reg ci s₀ c (A m ρ ci s₀ c) ∗ owe c (Ow c (j + 1)))
      ⊢ iprop(((T1 (F := F) k c ∗ reg ci s₁ c (A m ρ ci s₀ c) ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma (oM.slice (Rect.unit (s := S4096x2048) lo (shp n).size inb) ho)
                (.remote (Dev.tc d : Thread nD τ) (rM.slice (Rect.unit (s := S3584x2048) lr (shp n).size inb') hr) (.dma qs) hsc) (.dma qr) hsrc hdst hsem) kt) Q) := by
  subst h₀ h₁
  rw [← (Ow_succ c k j hj).1, ← (Ow_succ c k j hj).2]
  iintro H Hk
  iapply (wp_send_rs m ρ K c k hk9 ci s hci hs n hn d hd lo lr hlo hlr hqs hqr) $$ H
  iintro ⟨⟨HT, HG⟩, HO⟩
  iapply Hk
  isplitl [HT]; · iexact HT
  isplitl [HG] <;> iassumption

theorem send_ag {α : Type} {Q : α → sProp 𝕄} (k : Fin 18) (hk9 : ¬ k.val < 9) (ci s : Fin 3) (hci : ch k = ci) (hs : st k = s)
    (s₀ s₁ : ℕ) (h₀ : s.val = s₀) (h₁ : s₀ + 1 = s₁) (j : ℕ) (hj : j + k.val = 17) (n : ℕ) (hn : n = hk k)
    (d : Dev nD) (hd : d = peer k c) (lo : Fin 2 → ℕ) (hlo : lo = ![off ci s₁ c, 0])
    {inb} {ho} {qs qr : DmaSem sig} (hqs : qs = sS k) (hqr : qr = sR k)
    {hsc : (oM.slice (Rect.unit (s := S4096x2048) lo (shp n).size inb) ho : Memref sig (Dev.tc d : Thread nD τ).2.kind .vmem (shp n) .bf16).view.ref.isScScratch = false}
    {hsrc : (oM.slice (Rect.unit (s := S4096x2048) lo (shp n).size inb) ho : Memref sig .tc .vmem (shp n) .bf16).view.WordExact}
    {hdst : (oM.slice (Rect.unit (s := S4096x2048) lo (shp n).size inb) ho : Memref sig .tc .vmem (shp n) .bf16).view.WordExact}
    {hsem : DmaTarget.Typed .vmem (.dma qr) (.remote (Dev.tc d : Thread nD τ) (oM.slice (Rect.unit (s := S4096x2048) lo (shp n).size inb) ho) (.dma qs) hsc)}
    {kt : PUnit → Prog (TpuEff nD τ sig (Elt F) Λ₀ .tc) α} :
    iprop(pers m ρ K ∗ T0 (F := F) k c ∗ oDst (F := F) ci s₀ c ∗ reg ci s₁ c (fin m ρ) ∗ owe c (Ow c (j + 1)))
      ⊢ iprop(((T1 (F := F) k c ∗ owe c (Ow c j)) -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma (oM.slice (Rect.unit (s := S4096x2048) lo (shp n).size inb) ho)
                (.remote (Dev.tc d : Thread nD τ) (oM.slice (Rect.unit (s := S4096x2048) lo (shp n).size inb) ho) (.dma qs) hsc) (.dma qr) hsrc hdst hsem) kt) Q) := by
  subst h₀ h₁
  rw [← (Ow_succ c k j hj).1, ← (Ow_succ c k j hj).2]
  exact wp_send_ag m ρ K c k hk9 ci s hci hs n hn d hd lo hlo hqs hqr

/-! ## Loads and stores of a region -/

theorem load_reg {α : Type} {Q : α → sProp 𝕄} (ci : Fin 3) (s₁ n : ℕ) (hn : n = cur ci s₁) (g : ℕ → ℕ → F .bf16) (lo : Fin 2 → ℕ) (hlo : lo = ![off ci s₁ c, 0]) {inb}
    {hl : (oM : Memref sig .tc .vmem S4096x2048 .bf16).view.LoadsAt (Rect.unit (s := S4096x2048) lo (shp n).size inb).toLoadRect}
    {kt : ((shp n).Idx → Elt F .bf16) → Prog (TpuEff nD τ sig (Elt F) Λ₀ .tc) α} :
    reg ci s₁ c g ⊢ iprop((reg ci s₁ c g -∗ wp frame (wpE (defs₀ (F := F)) 𝒱₀ (c : Thread nD τ) none) Set.univ (kt (vO (off ci s₁ c) n g)) Q)
        -∗ wp frame (wpE (defs₀ (F := F)) 𝒱₀ (c : Thread nD τ) none) Set.univ (.op (.load oM (Rect.unit (s := S4096x2048) lo (shp n).size inb).toLoadRect hl) kt) Q) := by
  unfold reg; subst hn; exact wp_load_o c _ _ g lo hlo
theorem store_reg {α : Type} {Q : α → sProp 𝕄} (ci : Fin 3) (s₁ n : ℕ) (hn : n = cur ci s₁) (g g' : ℕ → ℕ → F .bf16) (lo : Fin 2 → ℕ) (hlo : lo = ![off ci s₁ c, 0]) {inb}
    {w : (shp n).Idx → Elt F .bf16} (hw : w = vO (off ci s₁ c) n g')
    {hx : ((oM : Memref sig .tc .vmem S4096x2048 .bf16).access (Rect.unit (s := S4096x2048) lo (shp n).size inb)).Stores Finset.univ} {hm}
    {kt : PUnit → Prog (TpuEff nD τ sig (Elt F) Λ₀ .tc) α} :
    reg ci s₁ c g ⊢ iprop((reg ci s₁ c g' -∗ wp frame (wpE (defs₀ (F := F)) 𝒱₀ (c : Thread nD τ) none) Set.univ (kt ⟨⟩) Q)
        -∗ wp frame (wpE (defs₀ (F := F)) 𝒱₀ (c : Thread nD τ) none) Set.univ (.op (.store oM (Rect.unit (s := S4096x2048) lo (shp n).size inb) w Finset.univ hx hm) kt) Q) := by
  unfold reg; subst hn; exact wp_store_o c _ _ g g' lo hlo hw

/-- The sum of a device's rows and the landed rows is the next step's. -/
theorem add_rows (ci : Fin 3) (s s₁ : ℕ) (h₁ : s + 1 = s₁) (lo n : ℕ) :
    addf (vO (F := F) lo n (A m ρ ci s c)) (vO lo n (A m ρ ci s (pt (ord ci s) c))) = vO lo n (A m ρ ci s₁ c) := by subst h₁; rfl
theorem pay2_eq (ci : Fin 3) (s s₁ : ℕ) (h₁ : s + 1 = s₁) (lo : ℕ) :
    k0_pay2 (vO (F := F) lo 704 (A m ρ ci s c)) (vO lo 704 (A m ρ ci s (pt (ord ci s) c))) = vO lo 704 (A m ρ ci s₁ c) := by
  unfold k0_pay2; rw [shapeCast_self]; exact add_rows m ρ c ci s s₁ h₁ lo 704
theorem pay3_eq (ci : Fin 3) (s s₁ : ℕ) (h₁ : s + 1 = s₁) (lo : ℕ) :
    k0_pay3 (vO (F := F) lo 704 (A m ρ ci s c)) (vO lo 704 (A m ρ ci s (pt (ord ci s) c))) = vO lo 704 (A m ρ ci s₁ c) := by
  unfold k0_pay3; rw [shapeCast_self]; exact add_rows m ρ c ci s s₁ h₁ lo 704
theorem pay4_eq (ci : Fin 3) (s s₁ : ℕ) (h₁ : s + 1 = s₁) (lo : ℕ) :
    k0_pay4 (vO (F := F) lo 640 (A m ρ ci s c)) (vO lo 640 (A m ρ ci s (pt (ord ci s) c))) = vO lo 640 (A m ρ ci s₁ c) := by
  unfold k0_pay4; rw [shapeCast_self]; exact add_rows m ρ c ci s s₁ h₁ lo 640
theorem pay7_eq (ci : Fin 3) (s s₁ : ℕ) (h₁ : s + 1 = s₁) (lo : ℕ) :
    k0_pay7 (vO (F := F) lo 352 (A m ρ ci s c)) (vO lo 352 (A m ρ ci s (pt (ord ci s) c))) = vO lo 352 (A m ρ ci s₁ c) := by
  unfold k0_pay7; rw [shapeCast_self]; exact add_rows m ρ c ci s s₁ h₁ lo 352
theorem pay8_eq (ci : Fin 3) (s s₁ : ℕ) (h₁ : s + 1 = s₁) (lo : ℕ) :
    k0_pay8 (vO (F := F) lo 320 (A m ρ ci s c)) (vO lo 320 (A m ρ ci s (pt (ord ci s) c))) = vO lo 320 (A m ρ ci s₁ c) := by
  unfold k0_pay8; rw [shapeCast_self]; exact add_rows m ρ c ci s s₁ h₁ lo 320
theorem pay9_eq (ci : Fin 3) (s s₁ : ℕ) (h₁ : s + 1 = s₁) (lo : ℕ) :
    k0_pay9 (vO (F := F) lo 176 (A m ρ ci s c)) (vO lo 176 (A m ρ ci s (pt (ord ci s) c))) = vO lo 176 (A m ρ ci s₁ c) := by
  unfold k0_pay9; rw [shapeCast_self]; exact add_rows m ρ c ci s s₁ h₁ lo 176
theorem pay10_eq (ci : Fin 3) (s s₁ : ℕ) (h₁ : s + 1 = s₁) (lo : ℕ) :
    k0_pay10 (vO (F := F) lo 176 (A m ρ ci s c)) (vO lo 176 (A m ρ ci s (pt (ord ci s) c))) = vO lo 176 (A m ρ ci s₁ c) := by
  unfold k0_pay10; rw [shapeCast_self]; exact add_rows m ρ c ci s s₁ h₁ lo 176
theorem pay11_eq (ci : Fin 3) (s s₁ : ℕ) (h₁ : s + 1 = s₁) (lo : ℕ) :
    k0_pay11 (vO (F := F) lo 160 (A m ρ ci s c)) (vO lo 160 (A m ρ ci s (pt (ord ci s) c))) = vO lo 160 (A m ρ ci s₁ c) := by
  unfold k0_pay11; rw [shapeCast_self]; exact add_rows m ρ c ci s s₁ h₁ lo 160
theorem pay5_eq (lo : ℕ) (g : ℕ → ℕ → F .bf16) : k0_pay5 (vO (F := F) lo 352 g) = vO lo 352 g := by
  unfold k0_pay5; rw [shapeCast_self]
theorem pay6_eq (ci : Fin 3) (s s₁ : ℕ) (h₁ : s + 1 = s₁) (lo : ℕ) :
    k0_pay6 (vO (F := F) lo 352 (A m ρ ci s c)) (vO lo 352 (A m ρ ci s (pt (ord ci s) c))) = vO lo 352 (A m ρ ci s₁ c) := by
  unfold k0_pay6; exact add_rows m ρ c ci s s₁ h₁ lo 352

/-! ## The argument into the result's staging buffer -/

abbrev XLoc (c : Dev nD) : Loc nD τ sig := (c : Thread nD τ).loc cc0_stg0_0
def xPts : sProp 𝕄 := XLoc c ↦{fullShare} (xstg m ρ c : Buf (Elt F) (XLoc c))
def oWhole : sProp 𝕄 := iprop(∃ f : Buf (Elt F) (OLoc c), OLoc c ↦{fullShare} f)

omit [FloatOps F] in
theorem rowsO_all : (rowsO 0 4096 : Finset S4096x2048.Idx) = Finset.univ := by
  ext i; rw [mem_rowsO]
  exact ⟨fun _ => Finset.mem_univ i, fun _ => ⟨Nat.zero_le _, by have := (i 0).isLt; rw [Nat.zero_add]; exact this⟩⟩
omit [FloatOps F] in
theorem hz2 : (![0, 0] : Fin 2 → ℕ) = fun _ => 0 := funext fun a => by fin_cases a <;> rfl
omit [FloatOps F] in
theorem hz5 : (![0, 0, 0, 0, 0] : Fin 5 → ℕ) = fun _ => 0 := funext fun a => by fin_cases a <;> rfl

theorem oC_X : (oC (X m ρ c) : (cc0_stg1_0 : Ref sig .tc).ty.Contents (Elt F)) = k0_pay1 (xstg m ρ c) := by
  funext i
  show k0_pay1 (xstg m ρ c) (rc (i 0).val (i 1).val) = _
  congr 1
  funext a
  fin_cases a
  · exact Fin.ext (Nat.mod_eq_of_lt (i 0).isLt)
  · exact Fin.ext (Nat.mod_eq_of_lt (i 1).isLt)

omit [FloatOps F] in
/-- The three chunks are the whole buffer. -/
theorem chunks (g : ℕ → ℕ → F .bf16) :
    (OLoc c ↦{fullShare} (oC g : Buf (Elt F) (OLoc c)) : sProp 𝕄) ⊣⊢ iprop(reg 0 0 c g ∗ reg 1 0 c g ∗ reg 2 0 c g) := by
  rw [show (OLoc c ↦{fullShare} (oC g : Buf (Elt F) (OLoc c)) : sProp 𝕄) = oPts c 0 (1408 + (1408 + 1280)) g by unfold oPts; rw [rowsO_all]]
  have h1 := oPts_cut (F := F) c 0 1408 (1408 + 1280) g
  have h2 := oPts_cut (F := F) c 1408 1408 1280 g
  exact ⟨h1.1.trans (sep_mono_right h2.1), (sep_mono_right h2.2).trans h1.2⟩

theorem load_x {α : Type} {Q : α → sProp 𝕄}
    {hl : (xM : Memref sig .tc .vmem S1x1x1x4096x2048 .bf16).view.LoadsAt (Rect.unit (s := S1x1x1x4096x2048) ![0, 0, 0, 0, 0] S1x1x1x4096x2048.size inb_S1x1x1x4096x2048_S1x1x1x4096x2048_0_0_0_0_0).toLoadRect}
    {kt : (S1x1x1x4096x2048.Idx → Elt F .bf16) → Prog (TpuEff nD τ sig (Elt F) Λ₀ .tc) α} :
    xPts m ρ c ⊢ iprop((xPts m ρ c -∗ wp frame (wpE (defs₀ (F := F)) 𝒱₀ (c : Thread nD τ) none) Set.univ (kt (xstg m ρ c)) Q)
        -∗ wp frame (wpE (defs₀ (F := F)) 𝒱₀ (c : Thread nD τ) none) Set.univ (.op (.load xM (Rect.unit (s := S1x1x1x4096x2048) ![0, 0, 0, 0, 0] S1x1x1x4096x2048.size inb_S1x1x1x4096x2048_S1x1x1x4096x2048_0_0_0_0_0).toLoadRect hl) kt) Q) := by
  have h := wp_load (Q := Q) (defs := defs₀ (F := F)) (Ix := Unit) (Name := ℕ) (U := UU) (Lvl := ℕ) (Γ := .empty) 𝒱₀ (c : Thread nD τ) none Set.univ (m := xM)
    (r := (Rect.unit (s := S1x1x1x4096x2048) ![0, 0, 0, 0, 0] S1x1x1x4096x2048.size inb_S1x1x1x4096x2048_S1x1x1x4096x2048_0_0_0_0_0).toLoadRect) (hl := hl) (k := kt)
    (S := Finset.univ) (q := fullShare) (f := (xstg m ρ c : Buf (Elt F) (XLoc c))) (Finset.subset_univ _)
  have hr : (xM : Memref sig .tc .vmem S1x1x1x4096x2048 .bf16).view.readAt (Elt F)
      (Rect.unit (s := S1x1x1x4096x2048) ![0, 0, 0, 0, 0] S1x1x1x4096x2048.size inb_S1x1x1x4096x2048_S1x1x1x4096x2048_0_0_0_0_0).toLoadRect (xstg m ρ c) = xstg m ρ c :=
    Memref.readAt_unit_zero (Elt F) cc0_stg0_0 hz5 _ _
  rw [hr] at h
  exact h

theorem load_out {α : Type} {Q : α → sProp 𝕄}
    {hl : (oM : Memref sig .tc .vmem S4096x2048 .bf16).view.LoadsAt (Rect.unit (s := S4096x2048) ![0, 0] S4096x2048.size inb_S4096x2048_S4096x2048_0_0).toLoadRect}
    {kt : (S4096x2048.Idx → Elt F .bf16) → Prog (TpuEff nD τ sig (Elt F) Λ₀ .tc) α} :
    oWhole (F := F) c ⊢ iprop((∀ v, oWhole (F := F) c -∗ wp frame (wpE (defs₀ (F := F)) 𝒱₀ (c : Thread nD τ) none) Set.univ (kt v) Q)
        -∗ wp frame (wpE (defs₀ (F := F)) 𝒱₀ (c : Thread nD τ) none) Set.univ (.op (.load oM (Rect.unit (s := S4096x2048) ![0, 0] S4096x2048.size inb_S4096x2048_S4096x2048_0_0).toLoadRect hl) kt) Q) := by
  unfold oWhole
  iintro ⟨%f, Hf⟩ Hk
  iapply (wp_load 𝒱₀ (c : Thread nD τ) none Set.univ (m := oM) (Finset.subset_univ _)) $$ Hf
  iintro Hf
  iapply Hk
  iexists f; iexact Hf

theorem store_out {α : Type} {Q : α → sProp 𝕄}
    {hx : ((oM : Memref sig .tc .vmem S4096x2048 .bf16).access (Rect.unit (s := S4096x2048) ![0, 0] S4096x2048.size inb_S4096x2048_S4096x2048_0_0)).Stores Finset.univ} {hm}
    {kt : PUnit → Prog (TpuEff nD τ sig (Elt F) Λ₀ .tc) α} :
    oWhole (F := F) c ⊢ iprop(((reg 0 0 c (A m ρ 0 0 c) ∗ reg 1 0 c (A m ρ 1 0 c) ∗ reg 2 0 c (A m ρ 2 0 c)) -∗ wp frame (wpE (defs₀ (F := F)) 𝒱₀ (c : Thread nD τ) none) Set.univ (kt ⟨⟩) Q)
        -∗ wp frame (wpE (defs₀ (F := F)) 𝒱₀ (c : Thread nD τ) none) Set.univ (.op (.store oM (Rect.unit (s := S4096x2048) ![0, 0] S4096x2048.size inb_S4096x2048_S4096x2048_0_0) (k0_pay1 (xstg m ρ c)) Finset.univ hx hm) kt) Q) := by
  unfold oWhole
  iintro ⟨%f, Hf⟩ Hk
  have h := wp_store (Q := Q) (defs := defs₀ (F := F)) (Ix := Unit) (Name := ℕ) (U := UU) (Lvl := ℕ) (Γ := .empty) 𝒱₀ (c : Thread nD τ) none Set.univ (m := oM)
    (r := Rect.unit (s := S4096x2048) ![0, 0] S4096x2048.size inb_S4096x2048_S4096x2048_0_0) (w := k0_pay1 (xstg m ρ c)) (Mk := Finset.univ) (hx := hx) (hm := hm) (k := kt)
    (S := Finset.univ) (f := f) (Finset.subset_univ _)
  have hw : ((oM : Memref sig .tc .vmem S4096x2048 .bf16).access (Rect.unit (s := S4096x2048) ![0, 0] S4096x2048.size inb_S4096x2048_S4096x2048_0_0) : View sig .tc _ _ _).write
      (Elt F) f (k0_pay1 (xstg m ρ c)) Finset.univ = k0_pay1 (xstg m ρ c) := Memref.write_access_unit_zero_univ (Elt F) cc0_stg1_0 hz2 _ f _
  have hP : (OLoc c ↦{fullShare} (k0_pay1 (xstg m ρ c) : Buf (Elt F) (OLoc c)) : sProp 𝕄) = (OLoc c ↦{fullShare} (oC (X m ρ c) : Buf (Elt F) (OLoc c))) := by
    rw [← oC_X]
  rw [hw] at h
  iapply h $$ Hf
  iintro Hf
  iapply Hk
  iapply (chunks c (X m ρ c)).1
  iapply (Entails.of_eq hP)
  iexact Hf

/-! ## The barrier -/

theorem signal {α : Type} {Q : α → sProp 𝕄} (a : Fin 3) (d : Dev nD) (hd : d = pt a c) (O : CellTallies nD τ sig Unit) (k₁ k₂ k₃ : Fin 18)
    (h₁ : kA a 0 = k₁) (h₂ : kA a 1 = k₂) (h₃ : kA a 2 = k₃) {kt : PUnit → Prog (TpuEff nD τ sig (Elt F) Λ₀ .tc) α} :
    iprop(pers m ρ K ∗ dutyTok ER (barCell (pt a c)) 0 a ∗ rFree (F := F) k₁ c ∗ rFree (F := F) k₂ c ∗ rFree (F := F) k₃ c
        ∗ owe c (O + tallyAt (barCell (pt a c)) () 1))
      ⊢ iprop((owe c O -∗ wp frame (wpE (defs₀ (F := F)) 𝒱₀ (c : Thread nD τ) none) Set.univ (kt ⟨⟩) Q) -∗ wp frame (wpE (defs₀ (F := F)) 𝒱₀ (c : Thread nD τ) none) Set.univ (.op (.semSignal (Dev.tc d : Thread nD τ) barS (1#32).toNat) kt) Q) := by
  subst hd h₁ h₂ h₃
  unfold owe
  iintro ⟨#HP, Ht, H1, H2, H3, ⟨%W, HO⟩⟩ Hk
  ihave #HR := (rec_bar m ρ K (pt a c)) $$ HP
  icases HR with ⟨#HI, #Hr⟩
  iapply (Rounds.wp_signal 𝒱₀ ER (Rd m ρ) (c : Thread nD τ) none (dst := (pt a c : Thread nD τ)) (κ := K (pt a c, none))
      (d := a) (by rw [duties_bar]; exact Finset.mem_univ _) ((amount_bar m ρ (pt a c) a).trans (by decide)) () O rfl)
    $$ [HO Ht H1 H2 H3]
  · isplitr; · iexact HI
    isplitl [HO]; · iexact HO
    isplitl [Ht]; · iexact Ht
    isplitr []
    · rw [payload_bar]; unfold barPay; rw [pt_pt]
      isplitl [H1]; · iexact H1
      isplitl [H2] <;> iassumption
    · iexact Hr
  iintro HO
  iapply Hk
  iexists W; iexact HO

theorem bar0 : barPay (F := F) c 0 = iprop(rFree (F := F) 0 (peer 0 c) ∗ rFree (F := F) 5 (peer 5 c) ∗ rFree (F := F) 7 (peer 7 c)) := rfl
theorem bar1 : barPay (F := F) c 1 = iprop(rFree (F := F) 1 (peer 1 c) ∗ rFree (F := F) 3 (peer 3 c) ∗ rFree (F := F) 8 (peer 8 c)) := rfl
theorem bar2 : barPay (F := F) c 2 = iprop(rFree (F := F) 2 (peer 2 c) ∗ rFree (F := F) 4 (peer 4 c) ∗ rFree (F := F) 6 (peer 6 c)) := rfl

theorem wait_bar {α : Type} {Q : α → sProp 𝕄} {kt : PUnit → Prog (TpuEff nD τ sig (Elt F) Λ₀ .tc) α} :
    iprop(pers m ρ K ∗ cred (tallyAt (barCell c) () 3) ∗ atPos ER (barCell c) 0 ∅ 0 ∗ owe c (Ow c 18))
      ⊢ iprop(((semVal (barCell c) 0 ∗ (rFree (F := F) 0 (peer 0 c) ∗ rFree (F := F) 5 (peer 5 c) ∗ rFree (F := F) 7 (peer 7 c))
          ∗ (rFree (F := F) 1 (peer 1 c) ∗ rFree (F := F) 3 (peer 3 c) ∗ rFree (F := F) 8 (peer 8 c))
          ∗ (rFree (F := F) 2 (peer 2 c) ∗ rFree (F := F) 4 (peer 4 c) ∗ rFree (F := F) 6 (peer 6 c)) ∗ owe c (Ow c 18)) -∗ wp frame (wpE (defs₀ (F := F)) 𝒱₀ (c : Thread nD τ) none) Set.univ (kt ⟨⟩) Q)
        -∗ wp frame (wpE (defs₀ (F := F)) 𝒱₀ (c : Thread nD τ) none) Set.univ (.op (.semWait barS (3#32).toNat) kt) Q) := by
  unfold owe
  iintro ⟨#HP, Hc, Hat, ⟨%W, HO⟩⟩ Hk
  ihave #HR := (rec_bar m ρ K c) $$ HP
  icases HR with ⟨#HI, -⟩
  iapply (Rounds.wp_wait_rest_token 𝒱₀ ER (Rd m ρ) (c : Thread nD τ) none (κ := K (c, none))
      (wpE_semWait_eq 𝒱₀ (c : Thread nD τ) none Set.univ) (Set.mem_univ _) () (O := Ow c 18) (W := W) (R := 0) (m := 0) (T := ∅)
      (by rw [expect_bar]; decide)) $$ [Hc HO Hat]
  · isplitr; · iexact HI
    isplitl [Hc]; · iexact Hc
    isplitl [HO]; · iexact HO
    isplitr
    · iapply (mayWait_own c (.reg barS) 18 le_rfl (show 1 < 2 + (18 - 18) / 3 from by decide)); iapply (pers_lev m ρ K); iexact HP
    iexact Hat
  iintro ⟨HO, Hat, -, Hpay⟩
  imod (Rounds.cell_close ER (Rd m ρ) (Set.mem_univ (K (c, none))) (fun h => h) (R := 0 + 1) (duties_later m ρ (barCell c))) $$ [Hat] with Hz
  · isplitr; · iexact HI
    iexact Hat
  ihave Hp := (Entails.of_eq ((rest_bar m ρ c).trans (by rw [bar0, bar1, bar2]))) $$ Hpay
  icases Hp with ⟨H0, H1, H2⟩
  iapply Hk
  isplitl [Hz]; · iexact Hz
  isplitl [H0]; · iexact H0
  isplitl [H1]; · iexact H1
  isplitl [H2]; · iexact H2
  iexists _; iexact HO

/-- After the last accumulation a device's rows are the sum over all devices. -/
theorem reg_fin (ci : Fin 3) : reg ci 3 c (A m ρ ci 3 c) = reg ci 3 c (fin m ρ) := oPts_A_fin m ρ ci c

end Cert.KernelIdeal.AllReduce

end
-- ==== Proof.Parts1.lean ====
module

public import proofs.«01_k».proof.Proof.Ops

@[expose] public section

/-!
# The kernel's parts 1 to 7

Each part from what it uses to what it leaves, at a symbolic device and for any words handed to it.
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 36) → ℕ) (c : Dev nD)

theorem part1 {Q : (Σ' (d0 : Dev nD) (v2 : BitVec 32) (v5 : BitVec 32) (v8 : BitVec 32) (v9 : BitVec 32) (v10 : BitVec 32) (v11 : BitVec 32), Sems sig S_) → sProp 𝕄} :
    iprop(pers m ρ K ∗ (dutyTok ER (barCell (pt 0 c)) 0 0 ∗ rFree (F := F) 0 c ∗ rFree (F := F) 5 c ∗ rFree (F := F) 7 c ∗ owe c (O₀ c) ∗ dutyTok ER (barCell (pt 1 c)) 0 1 ∗ rFree (F := F) 1 c ∗ rFree (F := F) 3 c ∗ rFree (F := F) 8 c ∗ dutyTok ER (barCell (pt 2 c)) 0 2 ∗ rFree (F := F) 2 c ∗ rFree (F := F) 4 c ∗ rFree (F := F) 6 c) ∗ (∀ v2 : BitVec 32, ∀ v5 : BitVec 32, ∀ v8 : BitVec 32, ∀ v9 : BitVec 32, ∀ v10 : BitVec 32, ∀ v11 : BitVec 32, (owe c (Ow c 18)) -∗ Q ⟨c, v2, v5, v8, v9, v10, v11, SemArray.scalar (sig.barrier 0 rfl)⟩))
      ⊢ wp frame (wpE (defs₀ (F := F)) 𝒱₀ (c : Thread nD τ) none) Set.univ
          (k0_part1 (F := F) xM (Memref.isWhole_whole _) oM (Memref.isWhole_whole _) rM (Memref.isWhole_whole _) cc0_scratch1 cc0_scratch2 ) Q := by
  simp only [k0_part1_eq_skeleton]
  unfold k0_part1_skel
  simp only [semSignalWord, semWaitWord, Prog.lift, Prog.bind_op, Prog.bind_ret, Prog.pure_eq_ret, wp_deviceId]
  iintro ⟨#HP, ⟨HE0, HF0, HF5, HF7, HO, HE1, HF1, HF3, HF8, HE2, HF2, HF4, HF6⟩, Hk⟩
  iapply (signal m ρ K c 0 _ (e_dev1 c) (O₁ c) 0 5 7 rfl rfl rfl) $$ [HE0 HF0 HF5 HF7 HO]
  · isplitr; · iexact HP
    isplitl [HE0]; · iexact HE0
    isplitl [HF0]; · iexact HF0
    isplitl [HF5]; · iexact HF5
    isplitl [HF7]; · iexact HF7
    iexact HO
  iintro HO
  iapply (signal m ρ K c 1 _ (e_dev2 c) (O₂ c) 1 3 8 rfl rfl rfl) $$ [HE1 HF1 HF3 HF8 HO]
  · isplitr; · iexact HP
    isplitl [HE1]; · iexact HE1
    isplitl [HF1]; · iexact HF1
    isplitl [HF3]; · iexact HF3
    isplitl [HF8]; · iexact HF8
    iexact HO
  iintro HO
  iapply (signal m ρ K c 2 _ (e_dev3 c) (Ow c 18) 2 4 6 rfl rfl rfl) $$ [HE2 HF2 HF4 HF6 HO]
  · isplitr; · iexact HP
    isplitl [HE2]; · iexact HE2
    isplitl [HF2]; · iexact HF2
    isplitl [HF4]; · iexact HF4
    isplitl [HF6]; · iexact HF6
    iexact HO
  iintro HO
  rw [wp_ret]
  imodintro
  iapply Hk
  iexact HO

theorem part2 (v2 v5 v8 v9 v10 : BitVec 32) {Q : (PUnit) → sProp 𝕄} :
    iprop(pers m ρ K ∗ (cred (tallyAt (barCell c) () 3) ∗ atPos ER (barCell c) 0 ∅ 0 ∗ owe c (Ow c 18) ∗ xPts m ρ c ∗ oWhole (F := F) c ∗ T0 (F := F) 0 c) ∗ ((semVal (barCell c) 0 ∗ rFree (F := F) 5 (peer 5 c) ∗ rFree (F := F) 7 (peer 7 c) ∗ rFree (F := F) 1 (peer 1 c) ∗ rFree (F := F) 3 (peer 3 c) ∗ rFree (F := F) 8 (peer 8 c) ∗ rFree (F := F) 2 (peer 2 c) ∗ rFree (F := F) 4 (peer 4 c) ∗ rFree (F := F) 6 (peer 6 c) ∗ xPts m ρ c ∗ reg 1 0 c (A m ρ 1 0 c) ∗ reg 2 0 c (A m ρ 2 0 c) ∗ T1 (F := F) 0 c ∗ reg 0 1 c (A m ρ 0 0 c) ∗ owe c (Ow c 17)) -∗ Q ⟨⟩))
      ⊢ wp frame (wpE (defs₀ (F := F)) 𝒱₀ (c : Thread nD τ) none) Set.univ
          (k0_part2 (F := F) xM (Memref.isWhole_whole _) oM (Memref.isWhole_whole _) rM (Memref.isWhole_whole _) cc0_scratch1 cc0_scratch2 c v2 v5 v8 v9 v10 (SemArray.scalar (sig.barrier 0 rfl))) Q := by
  simp only [k0_part2_eq_skeleton]
  unfold k0_part2_skel
  simp only [semSignalWord, semWaitWord, Prog.lift, Prog.bind_op, Prog.bind_ret, Prog.pure_eq_ret]
  iintro ⟨#HP, ⟨HC, HP, HO, HX, HU, HT0⟩, Hk⟩
  iapply (wait_bar m ρ K c) $$ [HC HP HO]
  · isplitr; · iexact HP
    isplitl [HC]; · iexact HC
    isplitl [HP]; · iexact HP
    iexact HO
  iintro ⟨HZ, ⟨HF0, HF5, HF7⟩, ⟨HF1, HF3, HF8⟩, ⟨HF2, HF4, HF6⟩, HO⟩
  iapply (load_x m ρ c) $$ HX
  iintro HX
  iapply (load_out c) $$ HU
  iintro %w HU
  iapply (store_out m ρ c) $$ HU
  iintro ⟨HG0, HG1, HG2⟩
  iapply (send_rs m ρ K c 0 (by decide) 0 0 rfl rfl 0 1 rfl rfl 17 rfl 704 rfl _ (e_dev4 c) _ _ (e_off1_0 c) rfl rfl rfl) $$ [HT0 HF0 HG0 HO]
  · isplitr; · iexact HP
    isplitl [HT0]; · iexact HT0
    isplitl [HF0]; · iexact HF0
    isplitl [HG0]; · iexact HG0
    iexact HO
  iintro ⟨HT0, HG0, HO⟩
  rw [wp_ret]
  imodintro
  iapply Hk
  isplitl [HZ]; · iexact HZ
  isplitl [HF5]; · iexact HF5
  isplitl [HF7]; · iexact HF7
  isplitl [HF1]; · iexact HF1
  isplitl [HF3]; · iexact HF3
  isplitl [HF8]; · iexact HF8
  isplitl [HF2]; · iexact HF2
  isplitl [HF4]; · iexact HF4
  isplitl [HF6]; · iexact HF6
  isplitl [HX]; · iexact HX
  isplitl [HG1]; · iexact HG1
  isplitl [HG2]; · iexact HG2
  isplitl [HT0]; · iexact HT0
  isplitl [HG0]; · iexact HG0
  iexact HO

theorem part3 (v2 v5 v8 v9 v11 : BitVec 32) {Q : (Σ' (v81 : BitVec 32) (v87 : BitVec 32), BitVec 32) → sProp 𝕄} :
    iprop(pers m ρ K ∗ (T0 (F := F) 1 c ∗ rFree (F := F) 1 (peer 1 c) ∗ reg 1 0 c (A m ρ 1 0 c) ∗ owe c (Ow c 17) ∗ T0 (F := F) 2 c ∗ rFree (F := F) 2 (peer 2 c) ∗ reg 2 0 c (A m ρ 2 0 c) ∗ T1 (F := F) 0 c) ∗ (∀ r0 : BitVec 32, ∀ r1 : BitVec 32, ∀ r2 : BitVec 32, (T1 (F := F) 1 c ∗ reg 1 1 c (A m ρ 1 0 c) ∗ T1 (F := F) 2 c ∗ reg 2 1 c (A m ρ 2 0 c) ∗ T2 (F := F) 0 c ∗ owe c (Ow c 15)) -∗ Q ⟨r0, r1, r2⟩))
      ⊢ wp frame (wpE (defs₀ (F := F)) 𝒱₀ (c : Thread nD τ) none) Set.univ
          (k0_part3 (F := F) xM (Memref.isWhole_whole _) oM (Memref.isWhole_whole _) rM (Memref.isWhole_whole _) cc0_scratch1 cc0_scratch2 c v2 v5 v8 v9 v11) Q := by
  simp only [k0_part3_eq_skeleton]
  unfold k0_part3_skel
  simp only [semSignalWord, semWaitWord, Prog.lift, Prog.bind_op, Prog.bind_ret, Prog.pure_eq_ret]
  iintro ⟨#HP, ⟨HT1, HF1, HG1, HO, HT2, HF2, HG2, HT0⟩, Hk⟩
  iapply (send_rs m ρ K c 1 (by decide) 1 0 rfl rfl 0 1 rfl rfl 16 rfl 704 rfl _ (e_dev5 c) _ _ (e_off1_1 c) rfl rfl rfl) $$ [HT1 HF1 HG1 HO]
  · isplitr; · iexact HP
    isplitl [HT1]; · iexact HT1
    isplitl [HF1]; · iexact HF1
    isplitl [HG1]; · iexact HG1
    iexact HO
  iintro ⟨HT1, HG1, HO⟩
  iapply (send_rs m ρ K c 2 (by decide) 2 0 rfl rfl 0 1 rfl rfl 15 rfl 640 rfl _ (e_dev6 c) _ _ (e_off2 c) rfl rfl rfl) $$ [HT2 HF2 HG2 HO]
  · isplitr; · iexact HP
    isplitl [HT2]; · iexact HT2
    isplitl [HF2]; · iexact HF2
    isplitl [HG2]; · iexact HG2
    iexact HO
  iintro ⟨HT2, HG2, HO⟩
  iapply (wait_send_rs m ρ K c 0 (by decide) 704 rfl 15 (by decide) rfl) $$ [HT0 HO]
  · isplitr; · iexact HP
    isplitl [HT0]; · iexact HT0
    iexact HO
  iintro ⟨HT0, HO⟩
  rw [wp_ret]
  imodintro
  iapply Hk
  isplitl [HT1]; · iexact HT1
  isplitl [HG1]; · iexact HG1
  isplitl [HT2]; · iexact HT2
  isplitl [HG2]; · iexact HG2
  isplitl [HT0]; · iexact HT0
  iexact HO

theorem part4 (v2 v5 v8 v10 v81 v87 c2_i32_70 : BitVec 32) {Q : (BitVec 32) → sProp 𝕄} :
    iprop(pers m ρ K ∗ (T2 (F := F) 0 c ∗ owe c (Ow c 15) ∗ reg 0 1 c (A m ρ 0 0 c) ∗ T1 (F := F) 1 c) ∗ (∀ r0 : BitVec 32, (T3 (F := F) 0 c ∗ rPts c 0 704 (off 0 1 c) (A m ρ 0 0 (pt (ord 0 0) c)) ∗ oDst (F := F) 0 0 c ∗ reg 0 1 c (A m ρ 0 1 c) ∗ T3 (F := F) 1 c ∗ rPts c 704 704 (off 1 1 c) (A m ρ 1 0 (pt (ord 1 0) c)) ∗ oDst (F := F) 1 0 c ∗ owe c (Ow c 15)) -∗ Q r0))
      ⊢ wp frame (wpE (defs₀ (F := F)) 𝒱₀ (c : Thread nD τ) none) Set.univ
          (k0_part4 (F := F) xM (Memref.isWhole_whole _) oM (Memref.isWhole_whole _) rM (Memref.isWhole_whole _) cc0_scratch1 cc0_scratch2 c v2 v5 v8 v10 v81 v87 c2_i32_70) Q := by
  simp only [k0_part4_eq_skeleton]
  unfold k0_part4_skel
  simp only [semSignalWord, semWaitWord, Prog.lift, Prog.bind_op, Prog.bind_ret, Prog.pure_eq_ret]
  iintro ⟨#HP, ⟨HT0, HO, HG0, HT1⟩, Hk⟩
  iapply (wait_recv_rs m ρ K c 0 (by decide) 0 0 rfl rfl 0 1 rfl rfl 0 rfl 704 rfl 15 (by decide) (by decide) rfl) $$ [HT0 HO]
  · isplitr; · iexact HP
    isplitl [HT0]; · iexact HT0
    iexact HO
  iintro ⟨HT0, HB0, HD00, HO⟩
  iapply (load_reg c 0 1 704 rfl _ _ (e_off3_0 c)) $$ HG0
  iintro HG0
  iapply (wp_load_r c 0 704 (off 0 1 c) (A m ρ 0 0 (pt (ord 0 0) c)) _ rfl) $$ HB0
  iintro HB0
  iapply (load_reg c 0 1 704 rfl _ _ (e_off3_0 c)) $$ HG0
  iintro HG0
  iapply (store_reg c 0 1 704 rfl _ (A m ρ 0 1 c) _ (e_off3_0 c) (pay2_eq m ρ c 0 0 1 rfl _)) $$ HG0
  iintro HG0
  iapply (wait_send_rs m ρ K c 1 (by decide) 704 rfl 15 (by decide) rfl) $$ [HT1 HO]
  · isplitr; · iexact HP
    isplitl [HT1]; · iexact HT1
    iexact HO
  iintro ⟨HT1, HO⟩
  iapply (wait_recv_rs m ρ K c 1 (by decide) 1 0 rfl rfl 0 1 rfl rfl 704 rfl 704 rfl 15 (by decide) (by decide) rfl) $$ [HT1 HO]
  · isplitr; · iexact HP
    isplitl [HT1]; · iexact HT1
    iexact HO
  iintro ⟨HT1, HB1, HD10, HO⟩
  rw [wp_ret]
  imodintro
  iapply Hk
  isplitl [HT0]; · iexact HT0
  isplitl [HB0]; · iexact HB0
  isplitl [HD00]; · iexact HD00
  isplitl [HG0]; · iexact HG0
  isplitl [HT1]; · iexact HT1
  isplitl [HB1]; · iexact HB1
  isplitl [HD10]; · iexact HD10
  iexact HO

theorem part5 (v2 v5 v8 v11 v104 : BitVec 32) {Q : (Σ' (v127 : BitVec 32), BitVec 32) → sProp 𝕄} :
    iprop(pers m ρ K ∗ (reg 1 1 c (A m ρ 1 0 c) ∗ rPts c 704 704 (off 1 1 c) (A m ρ 1 0 (pt (ord 1 0) c)) ∗ T1 (F := F) 2 c ∗ owe c (Ow c 15) ∗ reg 2 1 c (A m ρ 2 0 c)) ∗ (∀ r0 : BitVec 32, ∀ r1 : BitVec 32, (reg 1 1 c (A m ρ 1 1 c) ∗ rPts c 704 704 (off 1 1 c) (A m ρ 1 0 (pt (ord 1 0) c)) ∗ T3 (F := F) 2 c ∗ rPts c 1408 640 (off 2 1 c) (A m ρ 2 0 (pt (ord 2 0) c)) ∗ oDst (F := F) 2 0 c ∗ owe c (Ow c 15) ∗ reg 2 1 c (A m ρ 2 1 c)) -∗ Q ⟨r0, r1⟩))
      ⊢ wp frame (wpE (defs₀ (F := F)) 𝒱₀ (c : Thread nD τ) none) Set.univ
          (k0_part5 (F := F) xM (Memref.isWhole_whole _) oM (Memref.isWhole_whole _) rM (Memref.isWhole_whole _) cc0_scratch1 cc0_scratch2 c v2 v5 v8 v11 v104) Q := by
  simp only [k0_part5_eq_skeleton]
  unfold k0_part5_skel
  simp only [semSignalWord, semWaitWord, Prog.lift, Prog.bind_op, Prog.bind_ret, Prog.pure_eq_ret]
  iintro ⟨#HP, ⟨HG1, HB1, HT2, HO, HG2⟩, Hk⟩
  iapply (load_reg c 1 1 704 rfl _ _ (e_off3_1 c)) $$ HG1
  iintro HG1
  iapply (wp_load_r c 704 704 (off 1 1 c) (A m ρ 1 0 (pt (ord 1 0) c)) _ rfl) $$ HB1
  iintro HB1
  iapply (load_reg c 1 1 704 rfl _ _ (e_off3_1 c)) $$ HG1
  iintro HG1
  iapply (store_reg c 1 1 704 rfl _ (A m ρ 1 1 c) _ (e_off3_1 c) (pay3_eq m ρ c 1 0 1 rfl _)) $$ HG1
  iintro HG1
  iapply (wait_send_rs m ρ K c 2 (by decide) 640 rfl 15 (by decide) rfl) $$ [HT2 HO]
  · isplitr; · iexact HP
    isplitl [HT2]; · iexact HT2
    iexact HO
  iintro ⟨HT2, HO⟩
  iapply (wait_recv_rs m ρ K c 2 (by decide) 2 0 rfl rfl 0 1 rfl rfl 1408 rfl 640 rfl 15 (by decide) (by decide) rfl) $$ [HT2 HO]
  · isplitr; · iexact HP
    isplitl [HT2]; · iexact HT2
    iexact HO
  iintro ⟨HT2, HB2, HD20, HO⟩
  iapply (load_reg c 2 1 640 rfl _ _ (e_off4 c)) $$ HG2
  iintro HG2
  iapply (wp_load_r c 1408 640 (off 2 1 c) (A m ρ 2 0 (pt (ord 2 0) c)) _ rfl) $$ HB2
  iintro HB2
  iapply (load_reg c 2 1 640 rfl _ _ (e_off4 c)) $$ HG2
  iintro HG2
  iapply (store_reg c 2 1 640 rfl _ (A m ρ 2 1 c) _ (e_off4 c) (pay4_eq m ρ c 2 0 1 rfl _)) $$ HG2
  iintro HG2
  rw [wp_ret]
  imodintro
  iapply Hk
  isplitl [HG1]; · iexact HG1
  isplitl [HB1]; · iexact HB1
  isplitl [HT2]; · iexact HT2
  isplitl [HB2]; · iexact HB2
  isplitl [HD20]; · iexact HD20
  isplitl [HO]; · iexact HO
  iexact HG2

theorem part6 (v2 v5 v8 v10 v11 v81 v104 v127 c1_i32_119 : BitVec 32) {Q : (PUnit) → sProp 𝕄} :
    iprop(pers m ρ K ∗ (T0 (F := F) 3 c ∗ rFree (F := F) 3 (peer 3 c) ∗ reg 0 1 c (A m ρ 0 1 c) ∗ owe c (Ow c 15) ∗ T0 (F := F) 4 c ∗ rFree (F := F) 4 (peer 4 c) ∗ reg 1 1 c (A m ρ 1 1 c)) ∗ ((T1 (F := F) 3 c ∗ reg 0 2 c (A m ρ 0 1 c) ∗ T1 (F := F) 4 c ∗ reg 1 2 c (A m ρ 1 1 c) ∗ owe c (Ow c 13)) -∗ Q ⟨⟩))
      ⊢ wp frame (wpE (defs₀ (F := F)) 𝒱₀ (c : Thread nD τ) none) Set.univ
          (k0_part6 (F := F) xM (Memref.isWhole_whole _) oM (Memref.isWhole_whole _) rM (Memref.isWhole_whole _) cc0_scratch1 cc0_scratch2 c v2 v5 v8 v10 v11 v81 v104 v127 c1_i32_119) Q := by
  simp only [k0_part6_eq_skeleton]
  unfold k0_part6_skel
  simp only [semSignalWord, semWaitWord, Prog.lift, Prog.bind_op, Prog.bind_ret, Prog.pure_eq_ret]
  iintro ⟨#HP, ⟨HT3, HF3, HG0, HO, HT4, HF4, HG1⟩, Hk⟩
  iapply (send_rs m ρ K c 3 (by decide) 0 1 rfl rfl 1 2 rfl rfl 14 rfl 352 rfl _ (e_dev7 c) _ _ (e_off5_0 c) rfl rfl rfl) $$ [HT3 HF3 HG0 HO]
  · isplitr; · iexact HP
    isplitl [HT3]; · iexact HT3
    isplitl [HF3]; · iexact HF3
    isplitl [HG0]; · iexact HG0
    iexact HO
  iintro ⟨HT3, HG0, HO⟩
  iapply (send_rs m ρ K c 4 (by decide) 1 1 rfl rfl 1 2 rfl rfl 13 rfl 352 rfl _ (e_dev8 c) _ _ (e_off5_1 c) rfl rfl rfl) $$ [HT4 HF4 HG1 HO]
  · isplitr; · iexact HP
    isplitl [HT4]; · iexact HT4
    isplitl [HF4]; · iexact HF4
    isplitl [HG1]; · iexact HG1
    iexact HO
  iintro ⟨HT4, HG1, HO⟩
  rw [wp_ret]
  imodintro
  iapply Hk
  isplitl [HT3]; · iexact HT3
  isplitl [HG0]; · iexact HG0
  isplitl [HT4]; · iexact HT4
  isplitl [HG1]; · iexact HG1
  iexact HO

theorem part7 (v2 v5 v8 v9 v10 v81 : BitVec 32) {Q : (Σ' (v195 : BitVec 32), FVec F S352x2048 .bf16) → sProp 𝕄} :
    iprop(pers m ρ K ∗ (T0 (F := F) 5 c ∗ rFree (F := F) 5 (peer 5 c) ∗ reg 2 1 c (A m ρ 2 1 c) ∗ owe c (Ow c 13) ∗ T1 (F := F) 3 c ∗ reg 0 2 c (A m ρ 0 1 c)) ∗ (∀ r0 : BitVec 32, (T1 (F := F) 5 c ∗ reg 2 2 c (A m ρ 2 1 c) ∗ T3 (F := F) 3 c ∗ rPts c 2048 352 (off 0 2 c) (A m ρ 0 1 (pt (ord 0 1) c)) ∗ oDst (F := F) 0 1 c ∗ owe c (Ow c 12) ∗ reg 0 2 c (A m ρ 0 1 c)) -∗ Q ⟨r0, vO (off 0 2 c) 352 (A m ρ 0 1 c)⟩))
      ⊢ wp frame (wpE (defs₀ (F := F)) 𝒱₀ (c : Thread nD τ) none) Set.univ
          (k0_part7 (F := F) xM (Memref.isWhole_whole _) oM (Memref.isWhole_whole _) rM (Memref.isWhole_whole _) cc0_scratch1 cc0_scratch2 c v2 v5 v8 v9 v10 v81) Q := by
  simp only [k0_part7_eq_skeleton]
  unfold k0_part7_skel
  simp only [semSignalWord, semWaitWord, Prog.lift, Prog.bind_op, Prog.bind_ret, Prog.pure_eq_ret]
  iintro ⟨#HP, ⟨HT5, HF5, HG2, HO, HT3, HG0⟩, Hk⟩
  iapply (send_rs m ρ K c 5 (by decide) 2 1 rfl rfl 1 2 rfl rfl 12 rfl 320 rfl _ (e_dev9 c) _ _ (e_off6 c) rfl rfl rfl) $$ [HT5 HF5 HG2 HO]
  · isplitr; · iexact HP
    isplitl [HT5]; · iexact HT5
    isplitl [HF5]; · iexact HF5
    isplitl [HG2]; · iexact HG2
    iexact HO
  iintro ⟨HT5, HG2, HO⟩
  iapply (wait_send_rs m ρ K c 3 (by decide) 352 rfl 12 (by decide) rfl) $$ [HT3 HO]
  · isplitr; · iexact HP
    isplitl [HT3]; · iexact HT3
    iexact HO
  iintro ⟨HT3, HO⟩
  iapply (wait_recv_rs m ρ K c 3 (by decide) 0 1 rfl rfl 1 2 rfl rfl 2048 rfl 352 rfl 12 (by decide) (by decide) rfl) $$ [HT3 HO]
  · isplitr; · iexact HP
    isplitl [HT3]; · iexact HT3
    iexact HO
  iintro ⟨HT3, HB3, HD01, HO⟩
  iapply (load_reg c 0 2 352 rfl _ _ (e_off7_0 c)) $$ HG0
  iintro HG0
  rw [wp_ret]
  imodintro
  rw [pay5_eq]
  iapply Hk
  isplitl [HT5]; · iexact HT5
  isplitl [HG2]; · iexact HG2
  isplitl [HT3]; · iexact HT3
  isplitl [HB3]; · iexact HB3
  isplitl [HD01]; · iexact HD01
  isplitl [HO]; · iexact HO
  iexact HG0

end Cert.KernelIdeal.AllReduce

end
-- ==== Proof.Parts2.lean ====
module

public import proofs.«01_k».proof.Proof.Ops

@[expose] public section

/-!
# The kernel's parts 8 to 14

Each part from what it uses to what it leaves, at a symbolic device and for any words handed to it.
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 36) → ℕ) (c : Dev nD)

theorem part8 (v2 v5 v8 v11 v104 v127 v195 : BitVec 32) {Q : (Σ' (v218 : BitVec 32), BitVec 32) → sProp 𝕄} :
    iprop(pers m ρ K ∗ (rPts c 2048 352 (off 0 2 c) (A m ρ 0 1 (pt (ord 0 1) c)) ∗ reg 0 2 c (A m ρ 0 1 c) ∗ T1 (F := F) 4 c ∗ owe c (Ow c 12) ∗ reg 1 2 c (A m ρ 1 1 c)) ∗ (∀ r0 : BitVec 32, ∀ r1 : BitVec 32, (rPts c 2048 352 (off 0 2 c) (A m ρ 0 1 (pt (ord 0 1) c)) ∗ reg 0 2 c (A m ρ 0 2 c) ∗ T3 (F := F) 4 c ∗ rPts c 2400 352 (off 1 2 c) (A m ρ 1 1 (pt (ord 1 1) c)) ∗ oDst (F := F) 1 1 c ∗ owe c (Ow c 12) ∗ reg 1 2 c (A m ρ 1 2 c)) -∗ Q ⟨r0, r1⟩))
      ⊢ wp frame (wpE (defs₀ (F := F)) 𝒱₀ (c : Thread nD τ) none) Set.univ
          (k0_part8 (F := F) xM (Memref.isWhole_whole _) oM (Memref.isWhole_whole _) rM (Memref.isWhole_whole _) cc0_scratch1 cc0_scratch2 c v2 v5 v8 v11 v104 v127 v195 (vO (off 0 2 c) 352 (A m ρ 0 1 c))) Q := by
  simp only [k0_part8_eq_skeleton]
  unfold k0_part8_skel
  simp only [semSignalWord, semWaitWord, Prog.lift, Prog.bind_op, Prog.bind_ret, Prog.pure_eq_ret]
  iintro ⟨#HP, ⟨HB3, HG0, HT4, HO, HG1⟩, Hk⟩
  iapply (wp_load_r c 2048 352 (off 0 2 c) (A m ρ 0 1 (pt (ord 0 1) c)) _ rfl) $$ HB3
  iintro HB3
  iapply (load_reg c 0 2 352 rfl _ _ (e_off7_0 c)) $$ HG0
  iintro HG0
  iapply (store_reg c 0 2 352 rfl _ (A m ρ 0 2 c) _ (e_off7_0 c) (pay6_eq m ρ c 0 1 2 rfl _)) $$ HG0
  iintro HG0
  iapply (wait_send_rs m ρ K c 4 (by decide) 352 rfl 12 (by decide) rfl) $$ [HT4 HO]
  · isplitr; · iexact HP
    isplitl [HT4]; · iexact HT4
    iexact HO
  iintro ⟨HT4, HO⟩
  iapply (wait_recv_rs m ρ K c 4 (by decide) 1 1 rfl rfl 1 2 rfl rfl 2400 rfl 352 rfl 12 (by decide) (by decide) rfl) $$ [HT4 HO]
  · isplitr; · iexact HP
    isplitl [HT4]; · iexact HT4
    iexact HO
  iintro ⟨HT4, HB4, HD11, HO⟩
  iapply (load_reg c 1 2 352 rfl _ _ (e_off7_1 c)) $$ HG1
  iintro HG1
  iapply (wp_load_r c 2400 352 (off 1 2 c) (A m ρ 1 1 (pt (ord 1 1) c)) _ rfl) $$ HB4
  iintro HB4
  iapply (load_reg c 1 2 352 rfl _ _ (e_off7_1 c)) $$ HG1
  iintro HG1
  iapply (store_reg c 1 2 352 rfl _ (A m ρ 1 2 c) _ (e_off7_1 c) (pay7_eq m ρ c 1 1 2 rfl _)) $$ HG1
  iintro HG1
  rw [wp_ret]
  imodintro
  iapply Hk
  isplitl [HB3]; · iexact HB3
  isplitl [HG0]; · iexact HG0
  isplitl [HT4]; · iexact HT4
  isplitl [HB4]; · iexact HB4
  isplitl [HD11]; · iexact HD11
  isplitl [HO]; · iexact HO
  iexact HG1

theorem part9 (v2 v5 v8 v9 v11 v195 v241 : BitVec 32) {Q : (PUnit) → sProp 𝕄} :
    iprop(pers m ρ K ∗ (T1 (F := F) 5 c ∗ owe c (Ow c 12) ∗ reg 2 2 c (A m ρ 2 1 c)) ∗ ((T3 (F := F) 5 c ∗ rPts c 2752 320 (off 2 2 c) (A m ρ 2 1 (pt (ord 2 1) c)) ∗ oDst (F := F) 2 1 c ∗ owe c (Ow c 12) ∗ reg 2 2 c (A m ρ 2 2 c)) -∗ Q ⟨⟩))
      ⊢ wp frame (wpE (defs₀ (F := F)) 𝒱₀ (c : Thread nD τ) none) Set.univ
          (k0_part9 (F := F) xM (Memref.isWhole_whole _) oM (Memref.isWhole_whole _) rM (Memref.isWhole_whole _) cc0_scratch1 cc0_scratch2 c v2 v5 v8 v9 v11 v195 v241) Q := by
  simp only [k0_part9_eq_skeleton]
  unfold k0_part9_skel
  simp only [semSignalWord, semWaitWord, Prog.lift, Prog.bind_op, Prog.bind_ret, Prog.pure_eq_ret]
  iintro ⟨#HP, ⟨HT5, HO, HG2⟩, Hk⟩
  iapply (wait_send_rs m ρ K c 5 (by decide) 320 rfl 12 (by decide) rfl) $$ [HT5 HO]
  · isplitr; · iexact HP
    isplitl [HT5]; · iexact HT5
    iexact HO
  iintro ⟨HT5, HO⟩
  iapply (wait_recv_rs m ρ K c 5 (by decide) 2 1 rfl rfl 1 2 rfl rfl 2752 rfl 320 rfl 12 (by decide) (by decide) rfl) $$ [HT5 HO]
  · isplitr; · iexact HP
    isplitl [HT5]; · iexact HT5
    iexact HO
  iintro ⟨HT5, HB5, HD21, HO⟩
  iapply (load_reg c 2 2 320 rfl _ _ (e_off8 c)) $$ HG2
  iintro HG2
  iapply (wp_load_r c 2752 320 (off 2 2 c) (A m ρ 2 1 (pt (ord 2 1) c)) _ rfl) $$ HB5
  iintro HB5
  iapply (load_reg c 2 2 320 rfl _ _ (e_off8 c)) $$ HG2
  iintro HG2
  iapply (store_reg c 2 2 320 rfl _ (A m ρ 2 2 c) _ (e_off8 c) (pay8_eq m ρ c 2 1 2 rfl _)) $$ HG2
  iintro HG2
  rw [wp_ret]
  imodintro
  iapply Hk
  isplitl [HT5]; · iexact HT5
  isplitl [HB5]; · iexact HB5
  isplitl [HD21]; · iexact HD21
  isplitl [HO]; · iexact HO
  iexact HG2

theorem part10 (v2 v5 v8 v9 v10 v218 v241 : BitVec 32) {Q : (BitVec 32) → sProp 𝕄} :
    iprop(pers m ρ K ∗ (T0 (F := F) 6 c ∗ rFree (F := F) 6 (peer 6 c) ∗ reg 0 2 c (A m ρ 0 2 c) ∗ owe c (Ow c 12) ∗ T0 (F := F) 7 c ∗ rFree (F := F) 7 (peer 7 c) ∗ reg 1 2 c (A m ρ 1 2 c) ∗ T0 (F := F) 8 c ∗ rFree (F := F) 8 (peer 8 c) ∗ reg 2 2 c (A m ρ 2 2 c)) ∗ (∀ r0 : BitVec 32, (T1 (F := F) 6 c ∗ reg 0 3 c (A m ρ 0 2 c) ∗ T1 (F := F) 7 c ∗ reg 1 3 c (A m ρ 1 2 c) ∗ T1 (F := F) 8 c ∗ reg 2 3 c (A m ρ 2 2 c) ∗ owe c (Ow c 9)) -∗ Q r0))
      ⊢ wp frame (wpE (defs₀ (F := F)) 𝒱₀ (c : Thread nD τ) none) Set.univ
          (k0_part10 (F := F) xM (Memref.isWhole_whole _) oM (Memref.isWhole_whole _) rM (Memref.isWhole_whole _) cc0_scratch1 cc0_scratch2 c v2 v5 v8 v9 v10 v218 v241) Q := by
  simp only [k0_part10_eq_skeleton]
  unfold k0_part10_skel
  simp only [semSignalWord, semWaitWord, Prog.lift, Prog.bind_op, Prog.bind_ret, Prog.pure_eq_ret]
  iintro ⟨#HP, ⟨HT6, HF6, HG0, HO, HT7, HF7, HG1, HT8, HF8, HG2⟩, Hk⟩
  iapply (send_rs m ρ K c 6 (by decide) 0 2 rfl rfl 2 3 rfl rfl 11 rfl 176 rfl _ (e_dev10 c) _ _ (e_off9_0 c) rfl rfl rfl) $$ [HT6 HF6 HG0 HO]
  · isplitr; · iexact HP
    isplitl [HT6]; · iexact HT6
    isplitl [HF6]; · iexact HF6
    isplitl [HG0]; · iexact HG0
    iexact HO
  iintro ⟨HT6, HG0, HO⟩
  iapply (send_rs m ρ K c 7 (by decide) 1 2 rfl rfl 2 3 rfl rfl 10 rfl 176 rfl _ (e_dev11 c) _ _ (e_off9_1 c) rfl rfl rfl) $$ [HT7 HF7 HG1 HO]
  · isplitr; · iexact HP
    isplitl [HT7]; · iexact HT7
    isplitl [HF7]; · iexact HF7
    isplitl [HG1]; · iexact HG1
    iexact HO
  iintro ⟨HT7, HG1, HO⟩
  iapply (send_rs m ρ K c 8 (by decide) 2 2 rfl rfl 2 3 rfl rfl 9 rfl 160 rfl _ (e_dev12 c) _ _ (e_off10 c) rfl rfl rfl) $$ [HT8 HF8 HG2 HO]
  · isplitr; · iexact HP
    isplitl [HT8]; · iexact HT8
    isplitl [HF8]; · iexact HF8
    isplitl [HG2]; · iexact HG2
    iexact HO
  iintro ⟨HT8, HG2, HO⟩
  rw [wp_ret]
  imodintro
  iapply Hk
  isplitl [HT6]; · iexact HT6
  isplitl [HG0]; · iexact HG0
  isplitl [HT7]; · iexact HT7
  isplitl [HG1]; · iexact HG1
  isplitl [HT8]; · iexact HT8
  isplitl [HG2]; · iexact HG2
  iexact HO

theorem part11 (v2 v5 v8 v11 v195 v218 c176_i32_228 : BitVec 32) {Q : (Σ' (v309 : BitVec 32), BitVec 32) → sProp 𝕄} :
    iprop(pers m ρ K ∗ (T1 (F := F) 6 c ∗ owe c (Ow c 9) ∗ reg 0 3 c (A m ρ 0 2 c) ∗ T1 (F := F) 7 c) ∗ (∀ r0 : BitVec 32, ∀ r1 : BitVec 32, (T3 (F := F) 6 c ∗ rPts c 3072 176 (off 0 3 c) (A m ρ 0 2 (pt (ord 0 2) c)) ∗ oDst (F := F) 0 2 c ∗ reg 0 3 c (A m ρ 0 3 c) ∗ T2 (F := F) 7 c ∗ owe c (Ow c 9)) -∗ Q ⟨r0, r1⟩))
      ⊢ wp frame (wpE (defs₀ (F := F)) 𝒱₀ (c : Thread nD τ) none) Set.univ
          (k0_part11 (F := F) xM (Memref.isWhole_whole _) oM (Memref.isWhole_whole _) rM (Memref.isWhole_whole _) cc0_scratch1 cc0_scratch2 c v2 v5 v8 v11 v195 v218 c176_i32_228) Q := by
  simp only [k0_part11_eq_skeleton]
  unfold k0_part11_skel
  simp only [semSignalWord, semWaitWord, Prog.lift, Prog.bind_op, Prog.bind_ret, Prog.pure_eq_ret]
  iintro ⟨#HP, ⟨HT6, HO, HG0, HT7⟩, Hk⟩
  iapply (wait_send_rs m ρ K c 6 (by decide) 176 rfl 9 (by decide) rfl) $$ [HT6 HO]
  · isplitr; · iexact HP
    isplitl [HT6]; · iexact HT6
    iexact HO
  iintro ⟨HT6, HO⟩
  iapply (wait_recv_rs m ρ K c 6 (by decide) 0 2 rfl rfl 2 3 rfl rfl 3072 rfl 176 rfl 9 (by decide) (by decide) rfl) $$ [HT6 HO]
  · isplitr; · iexact HP
    isplitl [HT6]; · iexact HT6
    iexact HO
  iintro ⟨HT6, HB6, HD02, HO⟩
  iapply (load_reg c 0 3 176 rfl _ _ (e_off11_0 c)) $$ HG0
  iintro HG0
  iapply (wp_load_r c 3072 176 (off 0 3 c) (A m ρ 0 2 (pt (ord 0 2) c)) _ rfl) $$ HB6
  iintro HB6
  iapply (load_reg c 0 3 176 rfl _ _ (e_off11_0 c)) $$ HG0
  iintro HG0
  iapply (store_reg c 0 3 176 rfl _ (A m ρ 0 3 c) _ (e_off11_0 c) (pay9_eq m ρ c 0 2 3 rfl _)) $$ HG0
  iintro HG0
  iapply (wait_send_rs m ρ K c 7 (by decide) 176 rfl 9 (by decide) rfl) $$ [HT7 HO]
  · isplitr; · iexact HP
    isplitl [HT7]; · iexact HT7
    iexact HO
  iintro ⟨HT7, HO⟩
  rw [wp_ret]
  imodintro
  iapply Hk
  isplitl [HT6]; · iexact HT6
  isplitl [HB6]; · iexact HB6
  isplitl [HD02]; · iexact HD02
  isplitl [HG0]; · iexact HG0
  isplitl [HT7]; · iexact HT7
  iexact HO

theorem part12 (v2 v5 v8 v9 v10 v241 v332 : BitVec 32) {Q : (BitVec 32) → sProp 𝕄} :
    iprop(pers m ρ K ∗ (T2 (F := F) 7 c ∗ owe c (Ow c 9) ∗ reg 1 3 c (A m ρ 1 2 c) ∗ T1 (F := F) 8 c) ∗ (∀ r0 : BitVec 32, (T3 (F := F) 7 c ∗ rPts c 3248 176 (off 1 3 c) (A m ρ 1 2 (pt (ord 1 2) c)) ∗ oDst (F := F) 1 2 c ∗ reg 1 3 c (A m ρ 1 3 c) ∗ T2 (F := F) 8 c ∗ owe c (Ow c 9)) -∗ Q r0))
      ⊢ wp frame (wpE (defs₀ (F := F)) 𝒱₀ (c : Thread nD τ) none) Set.univ
          (k0_part12 (F := F) xM (Memref.isWhole_whole _) oM (Memref.isWhole_whole _) rM (Memref.isWhole_whole _) cc0_scratch1 cc0_scratch2 c v2 v5 v8 v9 v10 v241 v332) Q := by
  simp only [k0_part12_eq_skeleton]
  unfold k0_part12_skel
  simp only [semSignalWord, semWaitWord, Prog.lift, Prog.bind_op, Prog.bind_ret, Prog.pure_eq_ret]
  iintro ⟨#HP, ⟨HT7, HO, HG1, HT8⟩, Hk⟩
  iapply (wait_recv_rs m ρ K c 7 (by decide) 1 2 rfl rfl 2 3 rfl rfl 3248 rfl 176 rfl 9 (by decide) (by decide) rfl) $$ [HT7 HO]
  · isplitr; · iexact HP
    isplitl [HT7]; · iexact HT7
    iexact HO
  iintro ⟨HT7, HB7, HD12, HO⟩
  iapply (load_reg c 1 3 176 rfl _ _ (e_off11_1 c)) $$ HG1
  iintro HG1
  iapply (wp_load_r c 3248 176 (off 1 3 c) (A m ρ 1 2 (pt (ord 1 2) c)) _ rfl) $$ HB7
  iintro HB7
  iapply (load_reg c 1 3 176 rfl _ _ (e_off11_1 c)) $$ HG1
  iintro HG1
  iapply (store_reg c 1 3 176 rfl _ (A m ρ 1 3 c) _ (e_off11_1 c) (pay10_eq m ρ c 1 2 3 rfl _)) $$ HG1
  iintro HG1
  iapply (wait_send_rs m ρ K c 8 (by decide) 160 rfl 9 (by decide) rfl) $$ [HT8 HO]
  · isplitr; · iexact HP
    isplitl [HT8]; · iexact HT8
    iexact HO
  iintro ⟨HT8, HO⟩
  rw [wp_ret]
  imodintro
  iapply Hk
  isplitl [HT7]; · iexact HT7
  isplitl [HB7]; · iexact HB7
  isplitl [HD12]; · iexact HD12
  isplitl [HG1]; · iexact HG1
  isplitl [HT8]; · iexact HT8
  iexact HO

theorem part13 (v2 v5 v8 v9 v11 v355 : BitVec 32) {Q : (PUnit) → sProp 𝕄} :
    iprop(pers m ρ K ∗ (T2 (F := F) 8 c ∗ owe c (Ow c 9) ∗ reg 2 3 c (A m ρ 2 2 c) ∗ reg 0 3 c (A m ρ 0 3 c) ∗ T0 (F := F) 9 c ∗ oDst (F := F) 0 2 c ∗ reg 1 3 c (A m ρ 1 3 c) ∗ T0 (F := F) 10 c ∗ oDst (F := F) 1 2 c) ∗ ((T3 (F := F) 8 c ∗ rPts c 3424 160 (off 2 3 c) (A m ρ 2 2 (pt (ord 2 2) c)) ∗ oDst (F := F) 2 2 c ∗ reg 2 3 c (A m ρ 2 3 c) ∗ T1 (F := F) 9 c ∗ T1 (F := F) 10 c ∗ owe c (Ow c 7)) -∗ Q ⟨⟩))
      ⊢ wp frame (wpE (defs₀ (F := F)) 𝒱₀ (c : Thread nD τ) none) Set.univ
          (k0_part13 (F := F) xM (Memref.isWhole_whole _) oM (Memref.isWhole_whole _) rM (Memref.isWhole_whole _) cc0_scratch1 cc0_scratch2 c v2 v5 v8 v9 v11 v355) Q := by
  simp only [k0_part13_eq_skeleton]
  unfold k0_part13_skel
  simp only [semSignalWord, semWaitWord, Prog.lift, Prog.bind_op, Prog.bind_ret, Prog.pure_eq_ret]
  iintro ⟨#HP, ⟨HT8, HO, HG2, HG0, HT9, HD02, HG1, HT10, HD12⟩, Hk⟩
  iapply (wait_recv_rs m ρ K c 8 (by decide) 2 2 rfl rfl 2 3 rfl rfl 3424 rfl 160 rfl 9 (by decide) (by decide) rfl) $$ [HT8 HO]
  · isplitr; · iexact HP
    isplitl [HT8]; · iexact HT8
    iexact HO
  iintro ⟨HT8, HB8, HD22, HO⟩
  iapply (load_reg c 2 3 160 rfl _ _ (e_off12 c)) $$ HG2
  iintro HG2
  iapply (wp_load_r c 3424 160 (off 2 3 c) (A m ρ 2 2 (pt (ord 2 2) c)) _ rfl) $$ HB8
  iintro HB8
  iapply (load_reg c 2 3 160 rfl _ _ (e_off12 c)) $$ HG2
  iintro HG2
  iapply (store_reg c 2 3 160 rfl _ (A m ρ 2 3 c) _ (e_off12 c) (pay11_eq m ρ c 2 2 3 rfl _)) $$ HG2
  iintro HG2
  ihave HG0 := (Entails.of_eq (reg_fin m ρ c 0)) $$ HG0
  iapply (send_ag m ρ K c 9 (by decide) 0 2 rfl rfl 2 3 rfl rfl 8 rfl 176 rfl _ (e_dev13 c) _ (e_off13_0 c) rfl rfl) $$ [HT9 HD02 HG0 HO]
  · isplitr; · iexact HP
    isplitl [HT9]; · iexact HT9
    isplitl [HD02]; · iexact HD02
    isplitl [HG0]; · iexact HG0
    iexact HO
  iintro ⟨HT9, HO⟩
  ihave HG1 := (Entails.of_eq (reg_fin m ρ c 1)) $$ HG1
  iapply (send_ag m ρ K c 10 (by decide) 1 2 rfl rfl 2 3 rfl rfl 7 rfl 176 rfl _ (e_dev14 c) _ (e_off13_1 c) rfl rfl) $$ [HT10 HD12 HG1 HO]
  · isplitr; · iexact HP
    isplitl [HT10]; · iexact HT10
    isplitl [HD12]; · iexact HD12
    isplitl [HG1]; · iexact HG1
    iexact HO
  iintro ⟨HT10, HO⟩
  rw [wp_ret]
  imodintro
  iapply Hk
  isplitl [HT8]; · iexact HT8
  isplitl [HB8]; · iexact HB8
  isplitl [HD22]; · iexact HD22
  isplitl [HG2]; · iexact HG2
  isplitl [HT9]; · iexact HT9
  isplitl [HT10]; · iexact HT10
  iexact HO

theorem part14 (v2 v5 v8 v10 v11 v309 : BitVec 32) {Q : (BitVec 32) → sProp 𝕄} :
    iprop(pers m ρ K ∗ (reg 2 3 c (A m ρ 2 3 c) ∗ T0 (F := F) 11 c ∗ oDst (F := F) 2 2 c ∗ owe c (Ow c 7) ∗ T1 (F := F) 9 c) ∗ (∀ r0 : BitVec 32, (T1 (F := F) 11 c ∗ T3 (F := F) 9 c ∗ reg 0 2 c (fin m ρ) ∗ owe c (Ow c 6)) -∗ Q r0))
      ⊢ wp frame (wpE (defs₀ (F := F)) 𝒱₀ (c : Thread nD τ) none) Set.univ
          (k0_part14 (F := F) xM (Memref.isWhole_whole _) oM (Memref.isWhole_whole _) rM (Memref.isWhole_whole _) cc0_scratch1 cc0_scratch2 c v2 v5 v8 v10 v11 v309) Q := by
  simp only [k0_part14_eq_skeleton]
  unfold k0_part14_skel
  simp only [semSignalWord, semWaitWord, Prog.lift, Prog.bind_op, Prog.bind_ret, Prog.pure_eq_ret]
  iintro ⟨#HP, ⟨HG2, HT11, HD22, HO, HT9⟩, Hk⟩
  ihave HG2 := (Entails.of_eq (reg_fin m ρ c 2)) $$ HG2
  iapply (send_ag m ρ K c 11 (by decide) 2 2 rfl rfl 2 3 rfl rfl 6 rfl 160 rfl _ (e_dev15 c) _ (e_off14 c) rfl rfl) $$ [HT11 HD22 HG2 HO]
  · isplitr; · iexact HP
    isplitl [HT11]; · iexact HT11
    isplitl [HD22]; · iexact HD22
    isplitl [HG2]; · iexact HG2
    iexact HO
  iintro ⟨HT11, HO⟩
  iapply (wait_send_ag m ρ K c 9 (by decide) 0 2 rfl rfl 3 rfl 176 rfl 6 (by decide) rfl) $$ [HT9 HO]
  · isplitr; · iexact HP
    isplitl [HT9]; · iexact HT9
    iexact HO
  iintro ⟨HT9, HG0, HO⟩
  iapply (wait_recv_ag m ρ K c 9 (by decide) 0 2 rfl rfl 2 3 rfl rfl 176 rfl 6 (by decide) (by decide) rfl) $$ [HT9 HG0 HO]
  · isplitr; · iexact HP
    isplitl [HT9]; · iexact HT9
    isplitl [HG0]; · iexact HG0
    iexact HO
  iintro ⟨HT9, HG0, HO⟩
  rw [wp_ret]
  imodintro
  iapply Hk
  isplitl [HT11]; · iexact HT11
  isplitl [HT9]; · iexact HT9
  isplitl [HG0]; · iexact HG0
  iexact HO

end Cert.KernelIdeal.AllReduce

end
-- ==== Proof.Parts3.lean ====
module

public import proofs.«01_k».proof.Proof.Ops

@[expose] public section

/-!
# The kernel's parts 15 to 20

Each part from what it uses to what it leaves, at a symbolic device and for any words handed to it.
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 36) → ℕ) (c : Dev nD)

theorem part15 (v2 v5 v8 v9 v10 v332 v355 : BitVec 32) {Q : (Σ' (v444 : BitVec 32) (v460 : BitVec 32), BitVec 32) → sProp 𝕄} :
    iprop(pers m ρ K ∗ (T1 (F := F) 10 c ∗ owe c (Ow c 6) ∗ T1 (F := F) 11 c) ∗ (∀ r0 : BitVec 32, ∀ r1 : BitVec 32, ∀ r2 : BitVec 32, (T3 (F := F) 10 c ∗ reg 1 2 c (fin m ρ) ∗ T3 (F := F) 11 c ∗ reg 2 2 c (fin m ρ) ∗ owe c (Ow c 6)) -∗ Q ⟨r0, r1, r2⟩))
      ⊢ wp frame (wpE (defs₀ (F := F)) 𝒱₀ (c : Thread nD τ) none) Set.univ
          (k0_part15 (F := F) xM (Memref.isWhole_whole _) oM (Memref.isWhole_whole _) rM (Memref.isWhole_whole _) cc0_scratch1 cc0_scratch2 c v2 v5 v8 v9 v10 v332 v355) Q := by
  simp only [k0_part15_eq_skeleton]
  unfold k0_part15_skel
  simp only [semSignalWord, semWaitWord, Prog.lift, Prog.bind_op, Prog.bind_ret, Prog.pure_eq_ret]
  iintro ⟨#HP, ⟨HT10, HO, HT11⟩, Hk⟩
  iapply (wait_send_ag m ρ K c 10 (by decide) 1 2 rfl rfl 3 rfl 176 rfl 6 (by decide) rfl) $$ [HT10 HO]
  · isplitr; · iexact HP
    isplitl [HT10]; · iexact HT10
    iexact HO
  iintro ⟨HT10, HG1, HO⟩
  iapply (wait_recv_ag m ρ K c 10 (by decide) 1 2 rfl rfl 2 3 rfl rfl 176 rfl 6 (by decide) (by decide) rfl) $$ [HT10 HG1 HO]
  · isplitr; · iexact HP
    isplitl [HT10]; · iexact HT10
    isplitl [HG1]; · iexact HG1
    iexact HO
  iintro ⟨HT10, HG1, HO⟩
  iapply (wait_send_ag m ρ K c 11 (by decide) 2 2 rfl rfl 3 rfl 160 rfl 6 (by decide) rfl) $$ [HT11 HO]
  · isplitr; · iexact HP
    isplitl [HT11]; · iexact HT11
    iexact HO
  iintro ⟨HT11, HG2, HO⟩
  iapply (wait_recv_ag m ρ K c 11 (by decide) 2 2 rfl rfl 2 3 rfl rfl 160 rfl 6 (by decide) (by decide) rfl) $$ [HT11 HG2 HO]
  · isplitr; · iexact HP
    isplitl [HT11]; · iexact HT11
    isplitl [HG2]; · iexact HG2
    iexact HO
  iintro ⟨HT11, HG2, HO⟩
  rw [wp_ret]
  imodintro
  iapply Hk
  isplitl [HT10]; · iexact HT10
  isplitl [HG1]; · iexact HG1
  isplitl [HT11]; · iexact HT11
  isplitl [HG2]; · iexact HG2
  iexact HO

theorem part16 (v2 v5 v8 v9 v10 v11 v461 : BitVec 32) {Q : (PUnit) → sProp 𝕄} :
    iprop(pers m ρ K ∗ (T0 (F := F) 12 c ∗ oDst (F := F) 0 1 c ∗ reg 0 2 c (fin m ρ) ∗ owe c (Ow c 6) ∗ T0 (F := F) 13 c ∗ oDst (F := F) 1 1 c ∗ reg 1 2 c (fin m ρ) ∗ T0 (F := F) 14 c ∗ oDst (F := F) 2 1 c ∗ reg 2 2 c (fin m ρ)) ∗ ((T1 (F := F) 12 c ∗ T1 (F := F) 13 c ∗ T1 (F := F) 14 c ∗ owe c (Ow c 3)) -∗ Q ⟨⟩))
      ⊢ wp frame (wpE (defs₀ (F := F)) 𝒱₀ (c : Thread nD τ) none) Set.univ
          (k0_part16 (F := F) xM (Memref.isWhole_whole _) oM (Memref.isWhole_whole _) rM (Memref.isWhole_whole _) cc0_scratch1 cc0_scratch2 c v2 v5 v8 v9 v10 v11 v461) Q := by
  simp only [k0_part16_eq_skeleton]
  unfold k0_part16_skel
  simp only [semSignalWord, semWaitWord, Prog.lift, Prog.bind_op, Prog.bind_ret, Prog.pure_eq_ret]
  iintro ⟨#HP, ⟨HT12, HD01, HG0, HO, HT13, HD11, HG1, HT14, HD21, HG2⟩, Hk⟩
  iapply (send_ag m ρ K c 12 (by decide) 0 1 rfl rfl 1 2 rfl rfl 5 rfl 352 rfl _ (e_dev16 c) _ (e_off15_0 c) rfl rfl) $$ [HT12 HD01 HG0 HO]
  · isplitr; · iexact HP
    isplitl [HT12]; · iexact HT12
    isplitl [HD01]; · iexact HD01
    isplitl [HG0]; · iexact HG0
    iexact HO
  iintro ⟨HT12, HO⟩
  iapply (send_ag m ρ K c 13 (by decide) 1 1 rfl rfl 1 2 rfl rfl 4 rfl 352 rfl _ (e_dev17 c) _ (e_off15_1 c) rfl rfl) $$ [HT13 HD11 HG1 HO]
  · isplitr; · iexact HP
    isplitl [HT13]; · iexact HT13
    isplitl [HD11]; · iexact HD11
    isplitl [HG1]; · iexact HG1
    iexact HO
  iintro ⟨HT13, HO⟩
  iapply (send_ag m ρ K c 14 (by decide) 2 1 rfl rfl 1 2 rfl rfl 3 rfl 320 rfl _ (e_dev18 c) _ (e_off16 c) rfl rfl) $$ [HT14 HD21 HG2 HO]
  · isplitr; · iexact HP
    isplitl [HT14]; · iexact HT14
    isplitl [HD21]; · iexact HD21
    isplitl [HG2]; · iexact HG2
    iexact HO
  iintro ⟨HT14, HO⟩
  rw [wp_ret]
  imodintro
  iapply Hk
  isplitl [HT12]; · iexact HT12
  isplitl [HT13]; · iexact HT13
  isplitl [HT14]; · iexact HT14
  iexact HO

theorem part17 (v2 v5 v8 v10 v11 v428 : BitVec 32) {Q : (PUnit) → sProp 𝕄} :
    iprop(pers m ρ K ∗ (T1 (F := F) 12 c ∗ owe c (Ow c 3) ∗ T1 (F := F) 13 c) ∗ ((T3 (F := F) 12 c ∗ reg 0 1 c (fin m ρ) ∗ T3 (F := F) 13 c ∗ reg 1 1 c (fin m ρ) ∗ owe c (Ow c 3)) -∗ Q ⟨⟩))
      ⊢ wp frame (wpE (defs₀ (F := F)) 𝒱₀ (c : Thread nD τ) none) Set.univ
          (k0_part17 (F := F) xM (Memref.isWhole_whole _) oM (Memref.isWhole_whole _) rM (Memref.isWhole_whole _) cc0_scratch1 cc0_scratch2 c v2 v5 v8 v10 v11 v428) Q := by
  simp only [k0_part17_eq_skeleton]
  unfold k0_part17_skel
  simp only [semSignalWord, semWaitWord, Prog.lift, Prog.bind_op, Prog.bind_ret, Prog.pure_eq_ret]
  iintro ⟨#HP, ⟨HT12, HO, HT13⟩, Hk⟩
  iapply (wait_send_ag m ρ K c 12 (by decide) 0 1 rfl rfl 2 rfl 352 rfl 3 (by decide) rfl) $$ [HT12 HO]
  · isplitr; · iexact HP
    isplitl [HT12]; · iexact HT12
    iexact HO
  iintro ⟨HT12, HG0, HO⟩
  iapply (wait_recv_ag m ρ K c 12 (by decide) 0 1 rfl rfl 1 2 rfl rfl 352 rfl 3 (by decide) (by decide) rfl) $$ [HT12 HG0 HO]
  · isplitr; · iexact HP
    isplitl [HT12]; · iexact HT12
    isplitl [HG0]; · iexact HG0
    iexact HO
  iintro ⟨HT12, HG0, HO⟩
  iapply (wait_send_ag m ρ K c 13 (by decide) 1 1 rfl rfl 2 rfl 352 rfl 3 (by decide) rfl) $$ [HT13 HO]
  · isplitr; · iexact HP
    isplitl [HT13]; · iexact HT13
    iexact HO
  iintro ⟨HT13, HG1, HO⟩
  iapply (wait_recv_ag m ρ K c 13 (by decide) 1 1 rfl rfl 1 2 rfl rfl 352 rfl 3 (by decide) (by decide) rfl) $$ [HT13 HG1 HO]
  · isplitr; · iexact HP
    isplitl [HT13]; · iexact HT13
    isplitl [HG1]; · iexact HG1
    iexact HO
  iintro ⟨HT13, HG1, HO⟩
  rw [wp_ret]
  imodintro
  iapply Hk
  isplitl [HT12]; · iexact HT12
  isplitl [HG0]; · iexact HG0
  isplitl [HT13]; · iexact HT13
  isplitl [HG1]; · iexact HG1
  iexact HO

theorem part18 (v2 v5 v8 v9 v444 v460 : BitVec 32) {Q : (BitVec 32) → sProp 𝕄} :
    iprop(pers m ρ K ∗ (T1 (F := F) 14 c ∗ owe c (Ow c 3) ∗ T0 (F := F) 15 c ∗ oDst (F := F) 0 0 c ∗ reg 0 1 c (fin m ρ)) ∗ (∀ r0 : BitVec 32, (T3 (F := F) 14 c ∗ reg 2 1 c (fin m ρ) ∗ T1 (F := F) 15 c ∗ owe c (Ow c 2)) -∗ Q r0))
      ⊢ wp frame (wpE (defs₀ (F := F)) 𝒱₀ (c : Thread nD τ) none) Set.univ
          (k0_part18 (F := F) xM (Memref.isWhole_whole _) oM (Memref.isWhole_whole _) rM (Memref.isWhole_whole _) cc0_scratch1 cc0_scratch2 c v2 v5 v8 v9 v444 v460) Q := by
  simp only [k0_part18_eq_skeleton]
  unfold k0_part18_skel
  simp only [semSignalWord, semWaitWord, Prog.lift, Prog.bind_op, Prog.bind_ret, Prog.pure_eq_ret]
  iintro ⟨#HP, ⟨HT14, HO, HT15, HD00, HG0⟩, Hk⟩
  iapply (wait_send_ag m ρ K c 14 (by decide) 2 1 rfl rfl 2 rfl 320 rfl 3 (by decide) rfl) $$ [HT14 HO]
  · isplitr; · iexact HP
    isplitl [HT14]; · iexact HT14
    iexact HO
  iintro ⟨HT14, HG2, HO⟩
  iapply (wait_recv_ag m ρ K c 14 (by decide) 2 1 rfl rfl 1 2 rfl rfl 320 rfl 3 (by decide) (by decide) rfl) $$ [HT14 HG2 HO]
  · isplitr; · iexact HP
    isplitl [HT14]; · iexact HT14
    isplitl [HG2]; · iexact HG2
    iexact HO
  iintro ⟨HT14, HG2, HO⟩
  iapply (send_ag m ρ K c 15 (by decide) 0 0 rfl rfl 0 1 rfl rfl 2 rfl 704 rfl _ (e_dev19 c) _ (e_off17_0 c) rfl rfl) $$ [HT15 HD00 HG0 HO]
  · isplitr; · iexact HP
    isplitl [HT15]; · iexact HT15
    isplitl [HD00]; · iexact HD00
    isplitl [HG0]; · iexact HG0
    iexact HO
  iintro ⟨HT15, HO⟩
  rw [wp_ret]
  imodintro
  iapply Hk
  isplitl [HT14]; · iexact HT14
  isplitl [HG2]; · iexact HG2
  isplitl [HT15]; · iexact HT15
  iexact HO

theorem part19 (v2 v5 v8 v9 v10 v11 v557 : BitVec 32) {Q : (PUnit) → sProp 𝕄} :
    iprop(pers m ρ K ∗ (T0 (F := F) 16 c ∗ oDst (F := F) 1 0 c ∗ reg 1 1 c (fin m ρ) ∗ owe c (Ow c 2) ∗ T0 (F := F) 17 c ∗ oDst (F := F) 2 0 c ∗ reg 2 1 c (fin m ρ) ∗ T1 (F := F) 15 c) ∗ ((T1 (F := F) 16 c ∗ T1 (F := F) 17 c ∗ T2 (F := F) 15 c ∗ reg 0 1 c (fin m ρ) ∗ owe c (Ow c 0)) -∗ Q ⟨⟩))
      ⊢ wp frame (wpE (defs₀ (F := F)) 𝒱₀ (c : Thread nD τ) none) Set.univ
          (k0_part19 (F := F) xM (Memref.isWhole_whole _) oM (Memref.isWhole_whole _) rM (Memref.isWhole_whole _) cc0_scratch1 cc0_scratch2 c v2 v5 v8 v9 v10 v11 v557) Q := by
  simp only [k0_part19_eq_skeleton]
  unfold k0_part19_skel
  simp only [semSignalWord, semWaitWord, Prog.lift, Prog.bind_op, Prog.bind_ret, Prog.pure_eq_ret]
  iintro ⟨#HP, ⟨HT16, HD10, HG1, HO, HT17, HD20, HG2, HT15⟩, Hk⟩
  iapply (send_ag m ρ K c 16 (by decide) 1 0 rfl rfl 0 1 rfl rfl 1 rfl 704 rfl _ (e_dev20 c) _ (e_off17_1 c) rfl rfl) $$ [HT16 HD10 HG1 HO]
  · isplitr; · iexact HP
    isplitl [HT16]; · iexact HT16
    isplitl [HD10]; · iexact HD10
    isplitl [HG1]; · iexact HG1
    iexact HO
  iintro ⟨HT16, HO⟩
  iapply (send_ag m ρ K c 17 (by decide) 2 0 rfl rfl 0 1 rfl rfl 0 rfl 640 rfl _ (e_dev21 c) _ (e_off18 c) rfl rfl) $$ [HT17 HD20 HG2 HO]
  · isplitr; · iexact HP
    isplitl [HT17]; · iexact HT17
    isplitl [HD20]; · iexact HD20
    isplitl [HG2]; · iexact HG2
    iexact HO
  iintro ⟨HT17, HO⟩
  iapply (wait_send_ag m ρ K c 15 (by decide) 0 0 rfl rfl 1 rfl 704 rfl 0 (by decide) rfl) $$ [HT15 HO]
  · isplitr; · iexact HP
    isplitl [HT15]; · iexact HT15
    iexact HO
  iintro ⟨HT15, HG0, HO⟩
  rw [wp_ret]
  imodintro
  iapply Hk
  isplitl [HT16]; · iexact HT16
  isplitl [HT17]; · iexact HT17
  isplitl [HT15]; · iexact HT15
  isplitl [HG0]; · iexact HG0
  iexact HO

theorem part20 (v2 v5 v8 v10 v11 : BitVec 32) {Q : (PUnit) → sProp 𝕄} :
    iprop(pers m ρ K ∗ (T2 (F := F) 15 c ∗ reg 0 1 c (fin m ρ) ∗ owe c (Ow c 0) ∗ T1 (F := F) 16 c ∗ T1 (F := F) 17 c) ∗ ((T3 (F := F) 15 c ∗ reg 0 0 c (fin m ρ) ∗ T3 (F := F) 16 c ∗ reg 1 0 c (fin m ρ) ∗ T2 (F := F) 17 c ∗ reg 2 1 c (fin m ρ) ∗ owe c (Ow c 0)) -∗ Q ⟨⟩))
      ⊢ wp frame (wpE (defs₀ (F := F)) 𝒱₀ (c : Thread nD τ) none) Set.univ
          (k0_part20 (F := F) xM (Memref.isWhole_whole _) oM (Memref.isWhole_whole _) rM (Memref.isWhole_whole _) cc0_scratch1 cc0_scratch2 c v2 v5 v8 v10 v11) Q := by
  simp only [k0_part20_eq_skeleton]
  unfold k0_part20_skel
  simp only [semSignalWord, semWaitWord, Prog.lift, Prog.bind_op, Prog.bind_ret, Prog.pure_eq_ret]
  iintro ⟨#HP, ⟨HT15, HG0, HO, HT16, HT17⟩, Hk⟩
  iapply (wait_recv_ag m ρ K c 15 (by decide) 0 0 rfl rfl 0 1 rfl rfl 704 rfl 0 (by decide) (by decide) rfl) $$ [HT15 HG0 HO]
  · isplitr; · iexact HP
    isplitl [HT15]; · iexact HT15
    isplitl [HG0]; · iexact HG0
    iexact HO
  iintro ⟨HT15, HG0, HO⟩
  iapply (wait_send_ag m ρ K c 16 (by decide) 1 0 rfl rfl 1 rfl 704 rfl 0 (by decide) rfl) $$ [HT16 HO]
  · isplitr; · iexact HP
    isplitl [HT16]; · iexact HT16
    iexact HO
  iintro ⟨HT16, HG1, HO⟩
  iapply (wait_recv_ag m ρ K c 16 (by decide) 1 0 rfl rfl 0 1 rfl rfl 704 rfl 0 (by decide) (by decide) rfl) $$ [HT16 HG1 HO]
  · isplitr; · iexact HP
    isplitl [HT16]; · iexact HT16
    isplitl [HG1]; · iexact HG1
    iexact HO
  iintro ⟨HT16, HG1, HO⟩
  iapply (wait_send_ag m ρ K c 17 (by decide) 2 0 rfl rfl 1 rfl 640 rfl 0 (by decide) rfl) $$ [HT17 HO]
  · isplitr; · iexact HP
    isplitl [HT17]; · iexact HT17
    iexact HO
  iintro ⟨HT17, HG2, HO⟩
  rw [wp_ret]
  imodintro
  iapply Hk
  isplitl [HT15]; · iexact HT15
  isplitl [HG0]; · iexact HG0
  isplitl [HT16]; · iexact HT16
  isplitl [HG1]; · iexact HG1
  isplitl [HT17]; · iexact HT17
  isplitl [HG2]; · iexact HG2
  iexact HO

end Cert.KernelIdeal.AllReduce

end
-- ==== Proof.Body.lean ====
module

public import proofs.«01_k».proof.Proof.Parts1
public import proofs.«01_k».proof.Proof.Parts2
public import proofs.«01_k».proof.Proof.Parts3

@[expose] public section

/-!
# The kernel's body
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 36) → ℕ) (c : Dev nD)

/-! ## The landing rows and the receive buffer -/

omit [FloatOps F] in
theorem rAny_cut (lo n n' : ℕ) : (rAny (F := F) c lo (n + n')) ⊣⊢ iprop(rAny (F := F) c lo n ∗ rAny (F := F) c (lo + n) n') := by
  have hU : rowsR lo n ∪ rowsR (lo + n) n' = rowsR lo (n + n') := by
    ext i; rw [Finset.mem_union, mem_rowsR, mem_rowsR, mem_rowsR]; omega
  have hD : Disjoint (rowsR lo n) (rowsR (lo + n) n') := Finset.disjoint_left.mpr fun i hi hj => by rw [mem_rowsR] at hi hj; omega
  unfold rAny
  rw [← hU]
  constructor
  · iintro ⟨%f, H⟩
    ihave H' := (pointsTo_union hD).1 $$ H
    icases H' with ⟨H1, H2⟩
    isplitl [H1]
    · iexists f; iexact H1
    · iexists f; iexact H2
  · iintro ⟨⟨%f, H1⟩, ⟨%g, H2⟩⟩
    iexists ((rowsR (lo + n) n').piecewise g f)
    iapply (pointsTo_join hD)
    isplitl [H1] <;> iassumption

omit [FloatOps F] in
theorem rPts_any (k : Fin 18) (lo n so : ℕ) (g : ℕ → ℕ → F .bf16) (hlo : rb k = lo) (hn : hk k = n) : rPts c lo n so g ⊢ (rFree (F := F) k c) := by
  subst hlo hn
  unfold rFree rPts rAny
  iintro H
  iexists _; iexact H

def scr : sProp 𝕄 := iprop(∃ f : Buf (Elt F) (RLoc c), RLoc c ↦{fullShare} f)

omit [FloatOps F] in
theorem scr_eq : scr (F := F) c = rAny (F := F) c 0 (704 + (704 + (640 + (352 + (352 + (320 + (176 + (176 + 160)))))))) := by
  unfold scr rAny
  have h : rowsR 0 (704 + (704 + (640 + (352 + (352 + (320 + (176 + (176 + 160)))))))) = Finset.univ := by
    ext i; rw [mem_rowsR]
    exact ⟨fun _ => Finset.mem_univ i, fun _ => ⟨Nat.zero_le _, by have := (i 0).isLt; rw [Nat.zero_add]; exact this⟩⟩
  rw [h]

omit [FloatOps F] in
/-- The receive buffer is the nine transfers' landing rows. -/
theorem scr_cut : scr (F := F) c ⊣⊢ iprop(rFree (F := F) 0 c ∗ rFree (F := F) 1 c ∗ rFree (F := F) 2 c ∗ rFree (F := F) 3 c ∗ rFree (F := F) 4 c ∗ rFree (F := F) 5 c ∗ rFree (F := F) 6 c ∗ rFree (F := F) 7 c ∗ rFree (F := F) 8 c) := by
  rw [scr_eq]
  have h0 := rAny_cut (F := F) c 0 704 (704 + (640 + (352 + (352 + (320 + (176 + (176 + 160)))))))
  have h1 := rAny_cut (F := F) c 704 704 (640 + (352 + (352 + (320 + (176 + (176 + 160))))))
  have h2 := rAny_cut (F := F) c 1408 640 (352 + (352 + (320 + (176 + (176 + 160)))))
  have h3 := rAny_cut (F := F) c 2048 352 (352 + (320 + (176 + (176 + 160))))
  have h4 := rAny_cut (F := F) c 2400 352 (320 + (176 + (176 + 160)))
  have h5 := rAny_cut (F := F) c 2752 320 (176 + (176 + 160))
  have h6 := rAny_cut (F := F) c 3072 176 (176 + 160)
  have h7 := rAny_cut (F := F) c 3248 176 160
  exact ⟨h0.1.trans (sep_mono_right (h1.1.trans (sep_mono_right (h2.1.trans (sep_mono_right (h3.1.trans (sep_mono_right (h4.1.trans (sep_mono_right (h5.1.trans (sep_mono_right (h6.1.trans (sep_mono_right (h7.1)))))))))))))), (sep_mono_right ((sep_mono_right ((sep_mono_right ((sep_mono_right ((sep_mono_right ((sep_mono_right ((sep_mono_right (h7.2)).trans h6.2)).trans h5.2)).trans h4.2)).trans h3.2)).trans h2.2)).trans h1.2)).trans h0.2⟩

/-! ## What a device starts from and ends with -/

def toks3 : sProp 𝕄 := iprop(dutyTok ER (barCell (pt 0 c)) 0 0 ∗ dutyTok ER (barCell (pt 1 c)) 0 1 ∗ dutyTok ER (barCell (pt 2 c)) 0 2)
def allT0 : sProp 𝕄 := iprop(T0 (F := F) 0 c ∗ T0 (F := F) 1 c ∗ T0 (F := F) 2 c ∗ T0 (F := F) 3 c ∗ T0 (F := F) 4 c ∗ T0 (F := F) 5 c ∗ T0 (F := F) 6 c ∗ T0 (F := F) 7 c ∗ T0 (F := F) 8 c ∗ T0 (F := F) 9 c ∗ T0 (F := F) 10 c ∗ T0 (F := F) 11 c ∗ T0 (F := F) 12 c ∗ T0 (F := F) 13 c ∗ T0 (F := F) 14 c ∗ T0 (F := F) 15 c ∗ T0 (F := F) 16 c ∗ T0 (F := F) 17 c)
def allT3 : sProp 𝕄 := iprop(T3 (F := F) 0 c ∗ T3 (F := F) 1 c ∗ T3 (F := F) 2 c ∗ T3 (F := F) 3 c ∗ T3 (F := F) 4 c ∗ T3 (F := F) 5 c ∗ T3 (F := F) 6 c ∗ T3 (F := F) 7 c ∗ T3 (F := F) 8 c ∗ T3 (F := F) 9 c ∗ T3 (F := F) 10 c ∗ T3 (F := F) 11 c ∗ T3 (F := F) 12 c ∗ T3 (F := F) 13 c ∗ T3 (F := F) 14 c ∗ T3 (F := F) 15 c ∗ T3 (F := F) 16 c ∗ T3 (F := F) 17 c)
def outPts : sProp 𝕄 := OLoc c ↦{fullShare} (oC (fin m ρ) : Buf (Elt F) (OLoc c))

set_option maxHeartbeats 1000000 in
/-- The kernel's body, once, at a symbolic device. -/
theorem body_core {Q : PUnit → sProp 𝕄} :
    iprop(pers m ρ K ∗ toks3 (F := F) c ∗ scr (F := F) c ∗ allT0 (F := F) c ∗ cred (tallyAt (barCell c) () 3) ∗ atPos ER (barCell c) 0 ∅ 0
        ∗ owe c (O₀ c) ∗ xPts m ρ c ∗ oWhole (F := F) c
        ∗ ((scr (F := F) c ∗ allT3 (F := F) c ∗ semVal (barCell c) 0 ∗ owe c (Ow c 0) ∗ xPts m ρ c ∗ outPts m ρ c) -∗ Q ⟨⟩))
      ⊢ wp frame (wpE (defs₀ (F := F)) 𝒱₀ (c : Thread nD τ) none) Set.univ
          (cc0_body (F := F) xM (Memref.isWhole_whole _) oM (Memref.isWhole_whole _) rM (Memref.isWhole_whole _) cc0_scratch1 cc0_scratch2) Q := by
  simp only [cc0_body_eq_skeleton]
  unfold cc0_body_skel toks3 allT0
  iintro ⟨#HP, ⟨HE0, HE1, HE2⟩, Hs, ⟨HT0, HT1, HT2, HT3, HT4, HT5, HT6, HT7, HT8, HT9, HT10, HT11, HT12, HT13, HT14, HT15, HT16, HT17⟩, HC, HP0, HO, HX, HU, Hk⟩
  ihave Hs' := (scr_cut c).1 $$ Hs
  icases Hs' with ⟨HF0, HF1, HF2, HF3, HF4, HF5, HF6, HF7, HF8⟩
  rw [wp_bind]
  iapply (part1 m ρ K c)
  isplitr; · iexact HP
  isplitl [HE0 HF0 HF5 HF7 HO HE1 HF1 HF3 HF8 HE2 HF2 HF4 HF6]
  · isplitl [HE0]; · iexact HE0
    isplitl [HF0]; · iexact HF0
    isplitl [HF5]; · iexact HF5
    isplitl [HF7]; · iexact HF7
    isplitl [HO]; · iexact HO
    isplitl [HE1]; · iexact HE1
    isplitl [HF1]; · iexact HF1
    isplitl [HF3]; · iexact HF3
    isplitl [HF8]; · iexact HF8
    isplitl [HE2]; · iexact HE2
    isplitl [HF2]; · iexact HF2
    isplitl [HF4]; · iexact HF4
    iexact HF6
  iintro %w1_0
  iintro %w1_1
  iintro %w1_2
  iintro %w1_3
  iintro %w1_4
  iintro %w1_5
  iintro HO
  try dsimp only
  rw [wp_bind]
  iapply (part2 m ρ K c _ _ _ _ _)
  isplitr; · iexact HP
  isplitl [HC HP0 HO HX HU HT0]
  · isplitl [HC]; · iexact HC
    isplitl [HP0]; · iexact HP0
    isplitl [HO]; · iexact HO
    isplitl [HX]; · iexact HX
    isplitl [HU]; · iexact HU
    iexact HT0
  iintro ⟨HZ, HF5, HF7, HF1, HF3, HF8, HF2, HF4, HF6, HX, HG1, HG2, HT0, HG0, HO⟩
  try dsimp only
  rw [wp_bind]
  iapply (part3 m ρ K c _ _ _ _ _)
  isplitr; · iexact HP
  isplitl [HT1 HF1 HG1 HO HT2 HF2 HG2 HT0]
  · isplitl [HT1]; · iexact HT1
    isplitl [HF1]; · iexact HF1
    isplitl [HG1]; · iexact HG1
    isplitl [HO]; · iexact HO
    isplitl [HT2]; · iexact HT2
    isplitl [HF2]; · iexact HF2
    isplitl [HG2]; · iexact HG2
    iexact HT0
  iintro %w3_0
  iintro %w3_1
  iintro %w3_2
  iintro ⟨HT1, HG1, HT2, HG2, HT0, HO⟩
  try dsimp only
  rw [wp_bind]
  iapply (part4 m ρ K c _ _ _ _ _ _ _)
  isplitr; · iexact HP
  isplitl [HT0 HO HG0 HT1]
  · isplitl [HT0]; · iexact HT0
    isplitl [HO]; · iexact HO
    isplitl [HG0]; · iexact HG0
    iexact HT1
  iintro %w4_0
  iintro ⟨HT0, HB0, HD00, HG0, HT1, HB1, HD10, HO⟩
  try dsimp only
  rw [wp_bind]
  iapply (part5 m ρ K c _ _ _ _ _)
  isplitr; · iexact HP
  isplitl [HG1 HB1 HT2 HO HG2]
  · isplitl [HG1]; · iexact HG1
    isplitl [HB1]; · iexact HB1
    isplitl [HT2]; · iexact HT2
    isplitl [HO]; · iexact HO
    iexact HG2
  iintro %w5_0
  iintro %w5_1
  iintro ⟨HG1, HB1, HT2, HB2, HD20, HO, HG2⟩
  try dsimp only
  rw [wp_bind]
  iapply (part6 m ρ K c _ _ _ _ _ _ _ _ _)
  isplitr; · iexact HP
  isplitl [HT3 HF3 HG0 HO HT4 HF4 HG1]
  · isplitl [HT3]; · iexact HT3
    isplitl [HF3]; · iexact HF3
    isplitl [HG0]; · iexact HG0
    isplitl [HO]; · iexact HO
    isplitl [HT4]; · iexact HT4
    isplitl [HF4]; · iexact HF4
    iexact HG1
  iintro ⟨HT3, HG0, HT4, HG1, HO⟩
  try dsimp only
  rw [wp_bind]
  iapply (part7 m ρ K c _ _ _ _ _ _)
  isplitr; · iexact HP
  isplitl [HT5 HF5 HG2 HO HT3 HG0]
  · isplitl [HT5]; · iexact HT5
    isplitl [HF5]; · iexact HF5
    isplitl [HG2]; · iexact HG2
    isplitl [HO]; · iexact HO
    isplitl [HT3]; · iexact HT3
    iexact HG0
  iintro %w7_0
  iintro ⟨HT5, HG2, HT3, HB3, HD01, HO, HG0⟩
  try dsimp only
  rw [wp_bind]
  iapply (part8 m ρ K c _ _ _ _ _ _ _)
  isplitr; · iexact HP
  isplitl [HB3 HG0 HT4 HO HG1]
  · isplitl [HB3]; · iexact HB3
    isplitl [HG0]; · iexact HG0
    isplitl [HT4]; · iexact HT4
    isplitl [HO]; · iexact HO
    iexact HG1
  iintro %w8_0
  iintro %w8_1
  iintro ⟨HB3, HG0, HT4, HB4, HD11, HO, HG1⟩
  try dsimp only
  rw [wp_bind]
  iapply (part9 m ρ K c _ _ _ _ _ _ _)
  isplitr; · iexact HP
  isplitl [HT5 HO HG2]
  · isplitl [HT5]; · iexact HT5
    isplitl [HO]; · iexact HO
    iexact HG2
  iintro ⟨HT5, HB5, HD21, HO, HG2⟩
  try dsimp only
  rw [wp_bind]
  iapply (part10 m ρ K c _ _ _ _ _ _ _)
  isplitr; · iexact HP
  isplitl [HT6 HF6 HG0 HO HT7 HF7 HG1 HT8 HF8 HG2]
  · isplitl [HT6]; · iexact HT6
    isplitl [HF6]; · iexact HF6
    isplitl [HG0]; · iexact HG0
    isplitl [HO]; · iexact HO
    isplitl [HT7]; · iexact HT7
    isplitl [HF7]; · iexact HF7
    isplitl [HG1]; · iexact HG1
    isplitl [HT8]; · iexact HT8
    isplitl [HF8]; · iexact HF8
    iexact HG2
  iintro %w10_0
  iintro ⟨HT6, HG0, HT7, HG1, HT8, HG2, HO⟩
  try dsimp only
  rw [wp_bind]
  iapply (part11 m ρ K c _ _ _ _ _ _ _)
  isplitr; · iexact HP
  isplitl [HT6 HO HG0 HT7]
  · isplitl [HT6]; · iexact HT6
    isplitl [HO]; · iexact HO
    isplitl [HG0]; · iexact HG0
    iexact HT7
  iintro %w11_0
  iintro %w11_1
  iintro ⟨HT6, HB6, HD02, HG0, HT7, HO⟩
  try dsimp only
  rw [wp_bind]
  iapply (part12 m ρ K c _ _ _ _ _ _ _)
  isplitr; · iexact HP
  isplitl [HT7 HO HG1 HT8]
  · isplitl [HT7]; · iexact HT7
    isplitl [HO]; · iexact HO
    isplitl [HG1]; · iexact HG1
    iexact HT8
  iintro %w12_0
  iintro ⟨HT7, HB7, HD12, HG1, HT8, HO⟩
  try dsimp only
  rw [wp_bind]
  iapply (part13 m ρ K c _ _ _ _ _ _)
  isplitr; · iexact HP
  isplitl [HT8 HO HG2 HG0 HT9 HD02 HG1 HT10 HD12]
  · isplitl [HT8]; · iexact HT8
    isplitl [HO]; · iexact HO
    isplitl [HG2]; · iexact HG2
    isplitl [HG0]; · iexact HG0
    isplitl [HT9]; · iexact HT9
    isplitl [HD02]; · iexact HD02
    isplitl [HG1]; · iexact HG1
    isplitl [HT10]; · iexact HT10
    iexact HD12
  iintro ⟨HT8, HB8, HD22, HG2, HT9, HT10, HO⟩
  try dsimp only
  rw [wp_bind]
  iapply (part14 m ρ K c _ _ _ _ _ _)
  isplitr; · iexact HP
  isplitl [HG2 HT11 HD22 HO HT9]
  · isplitl [HG2]; · iexact HG2
    isplitl [HT11]; · iexact HT11
    isplitl [HD22]; · iexact HD22
    isplitl [HO]; · iexact HO
    iexact HT9
  iintro %w14_0
  iintro ⟨HT11, HT9, HG0, HO⟩
  try dsimp only
  rw [wp_bind]
  iapply (part15 m ρ K c _ _ _ _ _ _ _)
  isplitr; · iexact HP
  isplitl [HT10 HO HT11]
  · isplitl [HT10]; · iexact HT10
    isplitl [HO]; · iexact HO
    iexact HT11
  iintro %w15_0
  iintro %w15_1
  iintro %w15_2
  iintro ⟨HT10, HG1, HT11, HG2, HO⟩
  try dsimp only
  rw [wp_bind]
  iapply (part16 m ρ K c _ _ _ _ _ _ _)
  isplitr; · iexact HP
  isplitl [HT12 HD01 HG0 HO HT13 HD11 HG1 HT14 HD21 HG2]
  · isplitl [HT12]; · iexact HT12
    isplitl [HD01]; · iexact HD01
    isplitl [HG0]; · iexact HG0
    isplitl [HO]; · iexact HO
    isplitl [HT13]; · iexact HT13
    isplitl [HD11]; · iexact HD11
    isplitl [HG1]; · iexact HG1
    isplitl [HT14]; · iexact HT14
    isplitl [HD21]; · iexact HD21
    iexact HG2
  iintro ⟨HT12, HT13, HT14, HO⟩
  try dsimp only
  rw [wp_bind]
  iapply (part17 m ρ K c _ _ _ _ _ _)
  isplitr; · iexact HP
  isplitl [HT12 HO HT13]
  · isplitl [HT12]; · iexact HT12
    isplitl [HO]; · iexact HO
    iexact HT13
  iintro ⟨HT12, HG0, HT13, HG1, HO⟩
  try dsimp only
  rw [wp_bind]
  iapply (part18 m ρ K c _ _ _ _ _ _)
  isplitr; · iexact HP
  isplitl [HT14 HO HT15 HD00 HG0]
  · isplitl [HT14]; · iexact HT14
    isplitl [HO]; · iexact HO
    isplitl [HT15]; · iexact HT15
    isplitl [HD00]; · iexact HD00
    iexact HG0
  iintro %w18_0
  iintro ⟨HT14, HG2, HT15, HO⟩
  try dsimp only
  rw [wp_bind]
  iapply (part19 m ρ K c _ _ _ _ _ _ _)
  isplitr; · iexact HP
  isplitl [HT16 HD10 HG1 HO HT17 HD20 HG2 HT15]
  · isplitl [HT16]; · iexact HT16
    isplitl [HD10]; · iexact HD10
    isplitl [HG1]; · iexact HG1
    isplitl [HO]; · iexact HO
    isplitl [HT17]; · iexact HT17
    isplitl [HD20]; · iexact HD20
    isplitl [HG2]; · iexact HG2
    iexact HT15
  iintro ⟨HT16, HT17, HT15, HG0, HO⟩
  try dsimp only
  rw [wp_bind]
  iapply (part20 m ρ K c _ _ _ _ _)
  isplitr; · iexact HP
  isplitl [HT15 HG0 HO HT16 HT17]
  · isplitl [HT15]; · iexact HT15
    isplitl [HG0]; · iexact HG0
    isplitl [HO]; · iexact HO
    isplitl [HT16]; · iexact HT16
    iexact HT17
  iintro ⟨HT15, HG0, HT16, HG1, HT17, HG2, HO⟩
  try dsimp only
  simp only [Prog.lift, Prog.bind_op, Prog.bind_ret, Prog.pure_eq_ret]
  iapply (wait_recv_ag m ρ K c 17 (by decide) 2 0 rfl rfl 0 1 rfl rfl 640 rfl 0 (by decide) (by decide) rfl) $$ [HT17 HG2 HO]
  · isplitr; · iexact HP
    isplitl [HT17]; · iexact HT17
    isplitl [HG2]; · iexact HG2
    iexact HO
  iintro ⟨HT17, HG2, HO⟩
  rw [wp_ret]
  imodintro
  iapply Hk
  isplitl [HB0 HB1 HB2 HB3 HB4 HB5 HB6 HB7 HB8]
  · iapply (scr_cut c).2
    isplitl [HB0]; · iapply (rPts_any c 0 0 704 _ _ rfl rfl); iexact HB0
    isplitl [HB1]; · iapply (rPts_any c 1 704 704 _ _ rfl rfl); iexact HB1
    isplitl [HB2]; · iapply (rPts_any c 2 1408 640 _ _ rfl rfl); iexact HB2
    isplitl [HB3]; · iapply (rPts_any c 3 2048 352 _ _ rfl rfl); iexact HB3
    isplitl [HB4]; · iapply (rPts_any c 4 2400 352 _ _ rfl rfl); iexact HB4
    isplitl [HB5]; · iapply (rPts_any c 5 2752 320 _ _ rfl rfl); iexact HB5
    isplitl [HB6]; · iapply (rPts_any c 6 3072 176 _ _ rfl rfl); iexact HB6
    isplitl [HB7]; · iapply (rPts_any c 7 3248 176 _ _ rfl rfl); iexact HB7
    iapply (rPts_any c 8 3424 160 _ _ rfl rfl); iexact HB8
  isplitl [HT0 HT1 HT2 HT3 HT4 HT5 HT6 HT7 HT8 HT9 HT10 HT11 HT12 HT13 HT14 HT15 HT16 HT17]
  · unfold allT3
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    isplitl [HT15]; · iexact HT15
    isplitl [HT16]; · iexact HT16
    iexact HT17
  isplitl [HZ]; · iexact HZ
  isplitl [HO]; · iexact HO
  isplitl [HX]; · iexact HX
  unfold outPts
  iapply (chunks c (fin m ρ)).2
  isplitl [HG0]; · iexact HG0
  isplitl [HG1]; · iexact HG1
  iexact HG2

end Cert.KernelIdeal.AllReduce

end
-- ==== Proof.Run.lean ====
module

public import proofs.«01_k».proof.Proof.Body
public import Idealize.ShloMosaic.Lib.Pipeline.Launch
public import Idealize.ShloMosaic.Lib.Pipeline.Kit
public import proofs.«01_k».proof.Proof.Gen.KernelIdeal.Points
public import Idealize.ShloMosaic.Lib.Pipeline.CollectiveSegs

@[expose] public section

/-!
# The launch and the run
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells -/

omit [FloatOps F] in
theorem over_own (Φ : Fin 36 → sProp 𝕄) :
    bigSep Finset.univ Φ = iprop((bigSep Finset.univ fun k : Fin 18 => Φ (jS k)) ∗ bigSep Finset.univ fun k : Fin 18 => Φ (jR k)) := by
  rw [bigSep_univ_equiv (finSumFinEquiv (m := 18) (n := 18)) Φ, bigSep_univ_sum]; rfl
omit [FloatOps F] in
theorem over_cells (Φ : Option (Fin 36) → sProp 𝕄) :
    bigSep Finset.univ Φ = iprop((bigSep Finset.univ fun j : Fin 36 => Φ (some j)) ∗ Φ none) := by
  rw [bigSep_univ_equiv (Equiv.optionEquivSumPUnit.{0} (Fin 36)).symm Φ, bigSep_univ_sum, bigSep_univ_of_subsingleton PUnit.unit]; rfl
omit [FloatOps F] in
theorem over_axes (Φ : Fin 3 → sProp 𝕄) : bigSep Finset.univ Φ = iprop(Φ 0 ∗ Φ 1 ∗ Φ 2) :=
  bigSep_univ_eq_bigSepL [0, 1, 2] (by decide) (by decide) Φ
omit [FloatOps F] in
theorem over_transfers (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

omit [FloatOps F] in
theorem allT0_eq (c : Dev nD) : allT0 (F := F) c = bigSep Finset.univ fun k : Fin 18 => T0 (F := F) k c := by
  rw [over_transfers]; rfl
omit [FloatOps F] in
theorem allT3_eq (c : Dev nD) : allT3 (F := F) c = bigSep Finset.univ fun k : Fin 18 => T3 (F := F) k c := by
  rw [over_transfers]; rfl

/-! ## The pipeline's data and the body's obligation -/

def start (c : Dev nD) : sProp 𝕄 :=
  iprop(∃ K, pers m ρ K ∗ toks3 (F := F) c ∗ allT0 (F := F) c ∗ cred (tallyAt (barCell c) () 3) ∗ atPos ER (barCell c) 0 ∅ 0)
def Φ₀ (c : Dev nD) : sProp 𝕄 := iprop(start m ρ c ∗ scr (F := F) c)
def Φ₁ (c : Dev nD) : sProp 𝕄 := iprop(scr (F := F) c ∗ allT3 (F := F) c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => oC (fin m ρ)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem fetch_x (t : Fin cfg0.N) : (cfg0.win (0 : Fin 2)).fetch t = true := by rw [fin_N0 t]; rfl

omit [FloatOps F] in
theorem owns_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ ((c : Thread nD τ).loc b ↦{fullShare} f)) := by
  unfold owns; simp only [Memref.view_whole, View.read_whole, View.set_whole]

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_eq]
  have hb : (defs₀ (F := F)) .tc 0 (t0_0, cfg0.slots t0_0) = bodyAt0 t0_0 := rfl
  have hc : bodyAt0 (F := F) t0_0 = (cc0_body (F := F) xM (Memref.isWhole_whole _) oM (Memref.isWhole_whole _) rM (Memref.isWhole_whole _) cc0_scratch1 cc0_scratch2) := by
    unfold bodyAt0; congr 1
  rw [hb, hc]
  rw [show (dats m ρ 0 c).after 0 t0_0 = xstg m ρ c from rfl, show (dats m ρ 0 c).after 1 t0_0 = oC (fin m ρ) from rfl,
    show (dats m ρ 0 c).Φ t0_0.succ = Φ₁ (F := F) c from rfl, show (dats m ρ 0 c).Φ t0_0.castSucc = Φ₀ (F := F) m ρ c from rfl]
  unfold Φ₀ start Dat.owesAt Pipeline.owesWithin
  rw [show (dats m ρ 0 c).owed t0_0.castSucc = O₀ c from rfl, show (dats m ρ 0 c).owed t0_0.succ = 0 from rfl]
  iintro ⟨⟨⟨%K, #HP, Ht, HT, HC, Ha⟩, Hs⟩, ⟨%W, %hW, HO⟩, ⟨%d0, %g0, %hg0, Hx⟩, ⟨%d1, %g1, %hg1, Hout⟩⟩
  have hx : g0 = xstg m ρ c := by rw [hg0]; unfold Dat.before; rw [if_pos (fetch_x t0_0)]; rfl
  subst hx
  iapply (body_core m ρ K c)
  isplitr; · iexact HP
  isplitl [Ht]; · iexact Ht
  isplitl [Hs]; · iexact Hs
  isplitl [HT]; · iexact HT
  isplitl [HC]; · iexact HC
  isplitl [Ha]; · iexact Ha
  isplitl [HO]
  · unfold owe; iexists W; iexact HO
  isplitl [Hx]
  · unfold xPts; iexact Hx
  isplitl [Hout]
  · unfold oWhole; iexists g1; iexact Hout
  unfold owe xPts outPts Φ₁
  iintro ⟨Hs, HT, HZ, ⟨%W', HO⟩, Hx, Hout⟩
  isplitl [Hs HT HZ]
  · isplitl [Hs]; · iexact Hs
    isplitl [HT] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (_ | a) (_ | b) h
  · rfl
  · cases h
  · cases h
  · have h' : (⟨2 + a.val, by omega⟩ : Fin 38) = ⟨2 + b.val, by omega⟩ := SemLoc.dma.inj h
    have h'' : 2 + a.val = 2 + b.val := congrArg Fin.val h'
    exact congrArg some (Fin.ext (by omega))
theorem kcell_injective : Function.Injective kcell := by
  rintro ⟨c, j⟩ ⟨c', j'⟩ h
  have h1 : c = c' := congrArg (fun g : GSem nD τ sig => g.1.1) h
  have h2 : j = j' := csem_injective (congrArg Prod.snd h)
  rw [h1, h2]
def allCells : Finset (GSem nD τ sig) := Finset.univ.map ⟨kcell, kcell_injective⟩

/-- A device's own cells' duties: one for each axis at its barrier cell, one at each transfer's two cells. -/
abbrev tokOf (cj : Dev nD × (Fin 3 ⊕ Fin 36)) : GSem nD τ sig × ℕ × Fin 3 := match cj.2 with
  | .inl a => (barCell cj.1, 0, a)
  | .inr j => (kcell (cj.1, some j), 0, 0)
theorem tokOf_injective : Function.Injective tokOf := by
  rintro ⟨c, a | j⟩ ⟨c', a' | j'⟩ h
  · have h1 : c = c' := congrArg (fun x : GSem nD τ sig × ℕ × Fin 3 => x.1.1.1) h
    have h2 : a = a' := congrArg (fun x : GSem nD τ sig × ℕ × Fin 3 => x.2.2) h
    rw [h1, h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h1 : (c, some j) = (c', some j') := kcell_injective (congrArg Prod.fst h)
    rw [(Prod.mk.inj h1).1, Option.some.inj (Prod.mk.inj h1).2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop((bigSep Finset.univ fun a : Fin 3 => dutyTok ER (barCell c) 0 a) ∗ bigSep Finset.univ fun j : Fin 36 => dutyTok ER (kcell (c, some j)) 0 0)

def G (c : Dev nD) : sProp 𝕄 :=
  iprop((bigSep Finset.univ fun j : Option (Fin 36) => roundState ER (Rd m ρ) (kcell (c, j)) 0)
    ∗ (bigSep Finset.univ fun j : Option (Fin 36) => iprop(atPos ER (kcell (c, j)) 0 ∅ 0 ∗ reached ER (kcell (c, j)) 0)) ∗ toks (F := F) c)

/-- The tokens a device pays with. -/
def payToks (c : Dev nD) : sProp 𝕄 :=
  iprop((bigSep Finset.univ fun a : Fin 3 => dutyTok ER (barCell (pt a c)) 0 a)
    ∗ (bigSep Finset.univ fun k : Fin 18 => dutyTok ER (sendCell k c) 0 0)
    ∗ bigSep Finset.univ fun k : Fin 18 => dutyTok ER (recvCell k (peer k c)) 0 0)
def linear (c : Dev nD) : sProp 𝕄 :=
  iprop((bigSep Finset.univ fun j : Option (Fin 36) => atPos ER (kcell (c, j)) 0 ∅ 0) ∗ payToks (F := F) c)
def G' (c : Dev nD) : sProp 𝕄 := iprop(∃ K, records m ρ K ∗ linear (F := F) c)

theorem fund_cells : BI.own (ER (initOf allCells allToks)) ⊢ (|==> bigSep Finset.univ (G m ρ) : sProp 𝕄) := by
  have hX (Ψ : GSem nD τ sig → sProp 𝕄) : bigSep allCells Ψ = bigSep Finset.univ fun c : Dev nD => bigSep Finset.univ fun j : Option (Fin 36) => Ψ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      = (bigSep Finset.univ fun j : Option (Fin 36) => semVal (kcell (c, j)) 0 : sProp 𝕄) := by
  rw [over_cells, unscoped_bar]; rfl

omit [FloatOps F] in
theorem own_T3 (c : Dev nD) : allT3 (F := F) c
    = (Pipeline.ownSems0 (Ix := Unit) (Name := ℕ) (U := UU) (Lvl := ℕ) (Val := Elt F) (τ := τ) osem c : sProp 𝕄) := by
  rw [allT3_eq]
  unfold Pipeline.ownSems0 T3
  rw [bigSep_sep', over_own]
  simp only [osem_R, osem_S]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks (F := F) c) := by
  unfold G
  iintro ⟨Hos, Hus, Hst, Hat, Htok⟩
  ihave Hv := (Entails.of_eq (sems_eq (F := F) c)) $$ [Hos Hus]
  · isplitl [Hos] <;> iassumption
  imod (show iprop((bigSep Finset.univ fun j : Option (Fin 36) => semVal (kcell (c, j)) 0) ∗ bigSep Finset.univ fun j : Option (Fin 36) => roundState ER (Rd m ρ) (kcell (c, j)) 0)
      ⊢ (|={Set.univ}=> bigSep Finset.univ fun j => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt: a barrier's across each axis, a receive cell's to its transfer's sender. -/
theorem toks_dealt : (bigSep Finset.univ fun c : Dev nD => toks (F := F) c) = bigSep Finset.univ fun c : Dev nD => payToks (F := F) c := by
  have hB : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (pt a c)) 0 a := by
    rw [bigSep_univ_comm, BI.bigSep_univ_comm (fun (c : Dev nD) (a : Fin 3) => (dutyTok ER (barCell (pt a c)) 0 a : sProp 𝕄))]
    exact bigSep_congr fun a _ => bigSep_univ_equiv (ptE a) fun c => (dutyTok ER (barCell c) 0 a : sProp 𝕄)
  have hR : (bigSep Finset.univ fun c : Dev nD => bigSep Finset.univ fun k : Fin 18 => (dutyTok ER (recvCell k c) 0 0 : sProp 𝕄))
      = bigSep Finset.univ fun c : Dev nD => bigSep Finset.univ fun k : Fin 18 => dutyTok ER (recvCell k (peer k c)) 0 0 := by
    rw [bigSep_univ_comm, BI.bigSep_univ_comm (fun (c : Dev nD) (k : Fin 18) => (dutyTok ER (recvCell k (peer k c)) 0 0 : sProp 𝕄))]
    exact bigSep_congr fun k _ => bigSep_univ_equiv (ptE (ax k)) fun c => (dutyTok ER (recvCell k c) 0 0 : sProp 𝕄)
  unfold toks payToks
  simp only [over_own, kcell_R]
  simp only [bigSep_sep']
  rw [hB, hR]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks (F := F) c) : sProp 𝕄)
      ⊢ bigSep Finset.univ (G' m ρ) := by
  rw [bigSep_sep', bigSep_sep', ← bigSep_univ_prod (fun cj : Dev nD × Option (Fin 36) => iprop(∃ κ : ℕ, cellInv ER (Rd m ρ) κ (kcell cj))),
    bigSep_congr (s := Finset.univ) (fun (c : Dev nD) _ => bigSep_sep' Finset.univ (fun j : Option (Fin 36) => (atPos ER (kcell (c, j)) 0 ∅ 0 : sProp 𝕄)) (fun j => reached ER (kcell (c, j)) 0)),
    bigSep_sep', ← bigSep_univ_prod (fun cj : Dev nD × Option (Fin 36) => (reached ER (kcell cj) 0 : sProp 𝕄)), toks_dealt]
  iintro ⟨HI, ⟨Hat, #HR⟩, Htok⟩
  ihave HK := (BI.bigSep_exists_pi Finset.univ (fun (cj : Dev nD × Option (Fin 36)) (κ : ℕ) => (cellInv ER (Rd m ρ) κ (kcell cj) : sProp 𝕄))) $$ HI
  icases HK with ⟨%K, #HI⟩
  iapply (with_persistent (R := records m ρ K) (Φ := fun c => linear (F := F) c) fun c _ => show iprop(records m ρ K ∗ linear (F := F) c) ⊢ G' m ρ c from by
    unfold G'; iintro H; iexists K; iexact H)
  isplitr
  · unfold records; isplitl; · iexact HI
    iexact HR
  · unfold linear
    rw [bigSep_sep']
    isplitl [Hat]; · iexact Hat
    iexact Htok

/-- The launch's one global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credits dealt at launch -/

/-- The transfers left when `j` are. -/
def lft (j : ℕ) : Finset (Fin 18) := Finset.univ.filter fun k => 18 ≤ k.val + j

omit [FloatOps F] in
theorem creds_recv (c : Dev nD) : ∀ j, j ≤ 18 →
    (Pipeline.launchCred (fun d => Ow d j) c : sProp 𝕄) ⊢ bigSep (lft j) fun k => cred (tallyAt (recvCell k c) () (N k))
  | 0, _ => by
    have h : lft 0 = ∅ := Finset.filter_false_of_mem fun k _ => by omega
    rw [h, bigSep_empty]
    exact Entails.of_eq (Pipeline.launchCred_zero c)
  | j + 1, hj => by
    have hk : (kk j).val = 17 - j := rfl
    have hn : kk j ∉ lft j := fun h => by have := (Finset.mem_filter.mp h).2; omega
    have h : lft (j + 1) = insert (kk j) (lft j) := by
      ext k
      rw [Finset.mem_insert]; unfold lft; rw [Finset.mem_filter, Finset.mem_filter, Fin.ext_iff]
      constructor
      · rintro ⟨-, h⟩
        by_cases h' : k.val = (kk j).val
        · exact .inl h'
        · exact .inr ⟨Finset.mem_univ _, by omega⟩
      · rintro (h' | ⟨-, h'⟩)
        · exact ⟨Finset.mem_univ _, by omega⟩
        · exact ⟨Finset.mem_univ _, by omega⟩
    rw [h, show (bigSep (insert (kk j) (lft j)) fun k => (cred (tallyAt (recvCell k c) () (N k)) : sProp 𝕄)) = iprop(cred (tallyAt (recvCell (kk j) c) () (N (kk j))) ∗ bigSep (lft j) fun k => cred (tallyAt (recvCell k c) () (N k))) from bigSep_insert hn]
    rw [show (fun d => Ow d (j + 1)) = fun d => Ow d j + tallyAt (recvCell (kk j) (peer (kk j) d)) () (N (kk j)) from rfl, Pipeline.launchCred_add]
    iintro ⟨H, Hk⟩
    isplitl [Hk]
    · iapply (Pipeline.launchCred_tallyAt (.dma (sR (kk j))) (peer (kk j)) (peer (kk j)) (peer_peer _) (peer_peer _) () (N (kk j)) c)
      iexact Hk
    · iapply (creds_recv c j (by omega)); iexact H

omit [FloatOps F] in
theorem creds (c : Dev nD) : (Pipeline.launchCred O₀ c : sProp 𝕄)
    ⊢ iprop(cred (tallyAt (barCell c) () 3) ∗ bigSep Finset.univ fun k : Fin 18 => cred (tallyAt (recvCell k c) () (N k))) := by
  have hb (a : Fin 3) : (Pipeline.launchCred (fun d => tallyAt (barCell (pt a d)) () 1) c : sProp 𝕄) ⊢ cred (tallyAt (barCell c) () 1) :=
    Pipeline.launchCred_tallyAt (.reg barS) (pt a) (pt a) (pt_pt a) (pt_pt a) () 1 c
  have hu : lft 18 = Finset.univ := Finset.filter_true_of_mem fun k _ => by omega
  have hr := creds_recv (F := F) c 18 le_rfl
  rw [hu] at hr
  have h3 : (tallyAt (barCell c) () 3 : CellTallies nD τ sig Unit) = tallyAt (barCell c) () 1 + (tallyAt (barCell c) () 1 + tallyAt (barCell c) () 1) := by
    rw [tallyAt_add, tallyAt_add]
  rw [show (O₀ : Dev nD → CellTallies nD τ sig Unit) = fun d => ((Ow d 18 + tallyAt (barCell (pt 2 d)) () 1) + tallyAt (barCell (pt 1 d)) () 1) + tallyAt (barCell (pt 0 d)) () 1 from rfl,
    Pipeline.launchCred_add, Pipeline.launchCred_add, Pipeline.launchCred_add, h3]
  iintro ⟨⟨⟨Hr, H2⟩, H1⟩, H0⟩
  isplitl [H0 H1 H2]
  · iapply (cred_add _ _).2
    isplitl [H0]; · iapply (hb 0); iexact H0
    iapply (cred_add _ _).2
    isplitl [H1]; · iapply (hb 1); iexact H1
    iapply (hb 2); iexact H2
  · iapply hr; iexact Hr

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear payToks start pers toks3
  rw [over_cells, over_own, over_axes, allT0_eq]
  unfold T0
  simp only [bigSep_sep', kcell_R]
  iintro ⟨-, Hlev, Hcr, -, ⟨%K, Hrec, ⟨⟨HaS, HaR⟩, HaB⟩, HtB, HtS, HtR⟩⟩
  ihave Hc := (creds (F := F) c) $$ Hcr
  icases Hc with ⟨HcB, HcR⟩
  imodintro
  isplitl
  · iexists K
    isplitl [Hrec Hlev]
    · isplitl [Hrec] <;> iassumption
    isplitl [HtB]; · iexact HtB
    isplitl [HtS HtR HaS HaR HcR]
    · isplitl [HtS]; · iexact HtS
      isplitl [HtR]; · iexact HtR
      isplitl [HaS]; · iexact HaS
      isplitl [HaR]; · iexact HaR
      iexact HcR
    isplitl [HcB]; · iexact HcB
    iexact HaB
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscoped_bar]
  unfold Φ₁ scr
  rw [own_T3]
  iintro ⟨Hr, HT, HB⟩
  isplitl [HB]; · iexact HB
  isplitl [HT] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with zero counters: every weakly fair execution ends, each
    device's result array holding the sum, its argument unchanged, every semaphore counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held; -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AllReduce

end
-- ==== Proof.Value.lean ====
module

public import proofs.«01_k».proof.Proof.Run
public import proofs.«01_k».proof.Proof.Gen.ReferenceIdeal.Run
public import proofs.«01_k».proof.Defs
public import Idealize.ShloMosaic.PureOps.Ideal
public import Idealize.ShloMosaic.PureOps.Ideal.Laws
public import Idealize.ShloMosaic.Lib.Layout
public import Idealize.ShloMosaic.Lib.Pipeline.Value

@[expose] public section

/-!
# The result, and the reference's sum
-/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The staged argument and the result array -/

section Generic

variable {F : FTy → Type} [FloatOps F]
variable (m : (ℓ : Loc nD τ sig) → Buf (Elt F) ℓ) (ρ : Dev nD → PrngReg) (c : Dev nD)

/-- The staged block is the whole argument. -/
theorem xstg_eq : xstg m ρ c = (m ((c : Thread nD τ).loc main_arg0) : main_arg0.ty.Contents (Elt F)) :=
  Memref.read_access_unit_zero (Elt F) main_arg0 (by funext a; exact Nat.zero_mul _) _ _

/-- The result array after the run. -/
theorem finalA_o : finalA m ρ c (1 : Fin 2) = (oC (fin m ρ) : main_v1.ty.Contents (Elt F)) := by
  unfold finalA
  rw [show cfg0.N = t0_0.val + 1 from rfl, (dats m ρ 0 c).arrAt_succ (1 : Fin 2) t0_0, if_pos (flush0_1 _)]
  exact Memref.write_access_unit_zero_univ (Elt F) main_v1 (by funext a; exact Nat.zero_mul _) _ _ _

/-- The index of the argument's block that the row and column `i` name. -/
def inBlk (i : S4096x2048.Idx) : S1x1x1x4096x2048.Idx := fun a => match a with
  | ⟨0, _⟩ => (0 : Fin 1)
  | ⟨1, _⟩ => (0 : Fin 1)
  | ⟨2, _⟩ => (0 : Fin 1)
  | ⟨3, _⟩ => (i 0 : Fin 4096)
  | ⟨4, _⟩ => (i 1 : Fin 2048)

theorem inBlk_rowMajor (i : S4096x2048.Idx) : (S1x1x1x4096x2048.rowMajor (inBlk i)).val = (S4096x2048.rowMajor i).val := by
  rw [Shape.rowMajor_val_five, Shape.rowMajor_val_two]
  show (((0 * 1 + 0) * 1 + 0) * 4096 + (i 0).val) * 2048 + (i 1).val = (i 0).val * 2048 + (i 1).val
  omega

theorem X_eq (i : S4096x2048.Idx) :
    X m ρ c (i 0).val (i 1).val = (m ((c : Thread nD τ).loc main_arg0) : main_arg0.ty.Contents (Elt F)) (inBlk i) := by
  rw [← xstg_eq m ρ c]
  have h := congrFun (oC_X m ρ c) i
  refine Eq.trans (show X m ρ c (i 0).val (i 1).val = k0_pay1 (xstg m ρ c) i from h) ?_
  unfold k0_pay1
  rw [Idealize.ShloMosaic.shapeCast_self]
  exact shapeCast_apply _ _ i (inBlk i) (inBlk_rowMajor i)

end Generic

/-! ## Over the extended reals -/

variable (m : (ℓ : Loc nD τ sig) → Buf (Elt Ideal) ℓ) (ρ : Dev nD → PrngReg)

/-- The devices whose blocks device `c` has added up after three steps, in the order of the additions. -/
def order (ci : Fin 3) (c : Dev nD) : List (Dev nD) :=
  let o₀ := pt (ord ci 0); let o₁ := pt (ord ci 1); let o₂ := pt (ord ci 2)
  [c, o₀ c, o₁ c, o₀ (o₁ c), o₂ c, o₀ (o₂ c), o₁ (o₂ c), o₀ (o₁ (o₂ c))]
theorem order_perm : ∀ (ci : Fin 3) (c : Dev nD), (order ci c).Perm (List.finRange 8) := by decide +kernel

theorem A_sum (ci : Fin 3) (c : Dev nD) (r q : ℕ) :
    (A m ρ ci 3 c r q : EReal) = ∑ d : Fin 8, (X m ρ d r q : EReal) := by
  rw [← List.sum_ofFn, List.ofFn_eq_map, ← ((order_perm ci c).map fun d => (X m ρ d r q : EReal)).sum_eq]
  show ((((X m ρ c r q : EReal) + X m ρ (pt (ord ci 0) c) r q) + (X m ρ (pt (ord ci 1) c) r q + X m ρ (pt (ord ci 0) (pt (ord ci 1) c)) r q))
      + ((X m ρ (pt (ord ci 2) c) r q + X m ρ (pt (ord ci 0) (pt (ord ci 2) c)) r q)
        + (X m ρ (pt (ord ci 1) (pt (ord ci 2) c)) r q + X m ρ (pt (ord ci 0) (pt (ord ci 1) (pt (ord ci 2) c))) r q)) : EReal) = _
  unfold order
  simp only [List.map_cons, List.map_nil, List.sum_cons, List.sum_nil, add_zero, add_assoc]

/-- Device `d`'s block of the argument. -/
def argOf (d : Fin 8) : S1x1x1x4096x2048.Idx → EReal :=
  (m (((d : Dev nD) : Thread nD τ).loc main_arg0) : main_arg0.ty.Contents (Elt Ideal))

/-- Every row of the result is the sum of the eight devices' rows. -/
theorem fin_sum (i : S4096x2048.Idx) :
    @Eq EReal (oC (fin m ρ) i) (∑ d : Fin 8, argOf m d (inBlk i)) := by
  refine (A_sum m ρ _ _ _ _).trans (Finset.sum_congr rfl fun d _ => X_eq m ρ d i)

/-! ## The reference -/

abbrev RArr := Cert.ReferenceIdeal.S2x2x2x4096x2048

/-- Where the row and column `i` of device `d`'s block are in the whole array. -/
def inAll (d : Fin 8) (i : S4096x2048.Idx) : RArr.Idx := fun a => match a with
  | ⟨0, _⟩ => (⟨d.val / 4 % 2, Nat.mod_lt _ (by decide)⟩ : Fin 2)
  | ⟨1, _⟩ => (⟨d.val / 2 % 2, Nat.mod_lt _ (by decide)⟩ : Fin 2)
  | ⟨2, _⟩ => (⟨d.val % 2, Nat.mod_lt _ (by decide)⟩ : Fin 2)
  | ⟨3, _⟩ => (i 0 : Fin 4096)
  | ⟨4, _⟩ => (i 1 : Fin 2048)

theorem mesh_coords : ∀ d : Dev nD, ((Layout.meshBlock [2, 2, 2] ![[0], [1], [2], [], []] d) 0).val = d.val / 4 % 2
    ∧ ((Layout.meshBlock [2, 2, 2] ![[0], [1], [2], [], []] d) 1).val = d.val / 2 % 2
    ∧ ((Layout.meshBlock [2, 2, 2] ![[0], [1], [2], [], []] d) 2).val = d.val % 2 := by decide +kernel

theorem blk_at (d : Dev nD) (v : RArr.Idx → EReal) (i : S4096x2048.Idx) :
    Layout.blockN ⟨5, ![1, 1, 1, 4096, 2048]⟩ ⟨5, ![2, 2, 2, 4096, 2048]⟩ (Layout.meshBlock [2, 2, 2] ![[0], [1], [2], [], []] d) v (by decide) (inBlk i)
      = v (inAll d i) := by
  rw [Layout.blockN_apply]
  obtain ⟨h0, h1, h2⟩ := mesh_coords d
  refine congrArg v (funext fun a => Fin.ext ?_)
  rw [Layout.TilesN.idx_val]
  fin_cases a
  · show ((Layout.meshBlock [2, 2, 2] ![[0], [1], [2], [], []] d) 0).val * 1 + 0 = d.val / 4 % 2
    rw [h0]; omega
  · show ((Layout.meshBlock [2, 2, 2] ![[0], [1], [2], [], []] d) 1).val * 1 + 0 = d.val / 2 % 2
    rw [h1]; omega
  · show ((Layout.meshBlock [2, 2, 2] ![[0], [1], [2], [], []] d) 2).val * 1 + 0 = d.val % 2
    rw [h2]; omega
  · show 0 * 4096 + (i 0).val = (i 0).val
    omega
  · show 0 * 2048 + (i 1).val = (i 1).val
    omega

/-- The reference's sum at a row and column, as a sum over the devices. -/
theorem ref_sum (h : RArr.ReducesTo [0, 1, 2] Cert.ReferenceIdeal.S4096x2048) (v : RArr.Idx → EReal) (j : S4096x2048.Idx) :
    Ideal.hostReduceAdd h v 0 j = ∑ d : Fin 8, v (inAll d j) := by
  unfold Ideal.hostReduceAdd
  rw [zero_add]
  have d0 : ∀ i : RArr.Idx, (h.drop i 0 : ℕ) = i 3 := fun i => h.drop_apply_val_of_eq i 0 3
  have d1 : ∀ i : RArr.Idx, (h.drop i 1 : ℕ) = i 4 := fun i => h.drop_apply_val_of_eq i 1 4
  symm
  refine Finset.sum_bij (fun d _ => inAll d j) ?_ ?_ ?_ ?_
  · intro d _
    rw [Finset.mem_filter]
    refine ⟨Finset.mem_univ _, funext fun a => Fin.ext ?_⟩
    fin_cases a
    · exact d0 (inAll d j)
    · exact d1 (inAll d j)
  · intro a _ b _ hab
    have h0 : a.val / 4 % 2 = b.val / 4 % 2 := congrArg (fun f : RArr.Idx => (f 0).val) hab
    have h1 : a.val / 2 % 2 = b.val / 2 % 2 := congrArg (fun f : RArr.Idx => (f 1).val) hab
    have h2 : a.val % 2 = b.val % 2 := congrArg (fun f : RArr.Idx => (f 2).val) hab
    exact Fin.ext (by omega)
  · intro i hi
    have hj : h.drop i = j := (Finset.mem_filter.mp hi).2
    have b0 : (i 0).val < 2 := (i 0).isLt
    have b1 : (i 1).val < 2 := (i 1).isLt
    have b2 : (i 2).val < 2 := (i 2).isLt
    refine ⟨⟨4 * (i 0).val + 2 * (i 1).val + (i 2).val, by omega⟩, Finset.mem_univ _, funext fun a => Fin.ext ?_⟩
    fin_cases a
    · show (4 * (i 0).val + 2 * (i 1).val + (i 2).val) / 4 % 2 = (i 0).val
      omega
    · show (4 * (i 0).val + 2 * (i 1).val + (i 2).val) / 2 % 2 = (i 1).val
      omega
    · show (4 * (i 0).val + 2 * (i 1).val + (i 2).val) % 2 = (i 2).val
      omega
    · exact (congrArg Fin.val (congrFun hj 0)).symm.trans (d0 i)
    · exact (congrArg Fin.val (congrFun hj 1)).symm.trans (d1 i)
  · intro d _; rfl

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.ChipRun
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel ends, with its argument unchanged and every counter at zero: at bit patterns, -/
theorem frame_kernel : Cert.quiescent_Kernel := fun m ρ _ =>
  (θ_run Cert.Kernel.defs _ _).mono (fun _ h => ⟨fun c => (h.1 c (0 : Fin 2)).trans (Cert.Kernel.AllReduce.finalA_x m ρ c), h.2⟩)
    (Cert.Kernel.AllReduce.run_main (F := Bits) m ρ)
/-- and in exact arithmetic. -/
theorem frame_kernelIdeal : Cert.quiescent_KernelIdeal := fun m ρ _ =>
  (θ_run Cert.KernelIdeal.defs _ _).mono (fun _ h => ⟨fun c => (h.1 c (0 : Fin 2)).trans (Cert.KernelIdeal.AllReduce.finalA_x m ρ c), h.2⟩)
    (Cert.KernelIdeal.AllReduce.run_main (F := Ideal) m ρ)
/-- The reference is host operations alone and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What every device ends with is the reference's sum. -/
theorem value (m : (ℓ : Loc Cert.KernelIdeal.nD Cert.KernelIdeal.τ Cert.KernelIdeal.sig) → Buf (Elt Ideal) ℓ) (ρ : Dev Cert.KernelIdeal.nD → PrngReg)
    (v : Cert.KernelIdeal.AllReduce.RArr.Idx → EReal)
    (hm : ∀ d : Dev Cert.KernelIdeal.nD, Cert.KernelIdeal.AllReduce.argOf m d
      = Layout.blockN ⟨5, ![1, 1, 1, 4096, 2048]⟩ ⟨5, ![2, 2, 2, 4096, 2048]⟩ (Layout.meshBlock [2, 2, 2] ![[0], [1], [2], [], []] d) v (by decide))
    (h : Cert.KernelIdeal.AllReduce.RArr.ReducesTo [0, 1, 2] Cert.ReferenceIdeal.S4096x2048) (i : Cert.KernelIdeal.S4096x2048.Idx) :
    @Eq EReal (Cert.KernelIdeal.AllReduce.oC (Cert.KernelIdeal.AllReduce.fin m ρ) i) (Ideal.hostReduceAdd h v 0 i) := by
  refine (Cert.KernelIdeal.AllReduce.fin_sum m ρ i).trans (Eq.trans ?_ (Cert.KernelIdeal.AllReduce.ref_sum h v i).symm)
  exact Finset.sum_congr rfl fun d _ => by rw [hm d]; exact Cert.KernelIdeal.AllReduce.blk_at d v i

/-- In exact arithmetic every device's result is the reference's. -/
theorem algebraic : Cert.algebraic_KernelIdeal_ReferenceIdeal := fun m g m' g' _ hag => by
  refine ⟨_, ?_, (θ_run Cert.ReferenceIdeal.defs _ _).mono (fun r h => h 0) (Cert.ReferenceIdeal.Value.run (F := Ideal) m' g')⟩
  refine (θ_run Cert.KernelIdeal.defs _ _).mono (fun r h c => ⟨?_, (h.1 c (0 : Fin 2)).trans (Cert.KernelIdeal.AllReduce.finalA_x m g c)⟩)
    (Cert.KernelIdeal.AllReduce.run_main (F := Ideal) m g)
  refine ((h.1 c (1 : Fin 2)).trans (Cert.KernelIdeal.AllReduce.finalA_o m g c)).trans (funext fun i => ?_)
  refine (value m g (m' (((0 : Dev Cert.ReferenceIdeal.nD).tc : Thread Cert.ReferenceIdeal.nD Cert.ReferenceIdeal.τ).loc Cert.ReferenceIdeal.main_arg0))
    (fun d => hag d) Cert.ReferenceIdeal.Gen.reducesTo_S2x2x2x4096x2048_S4096x2048_d0_1_2 i).trans ?_
  refine Eq.trans (congrArg (fun z : EReal => Ideal.hostReduceAdd _ _ z i) Ideal.ofBits_zero_f32.symm) ?_
  rfl

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
